-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x32x384 : Shape := ⟨4, ![4, 32, 32, 384]⟩
abbrev S768x384 : Shape := ⟨2, ![768, 384]⟩
abbrev S768 : Shape := ⟨1, ![768]⟩
abbrev S384x384 : Shape := ⟨2, ![384, 384]⟩
abbrev S384 : Shape := ⟨1, ![384]⟩
abbrev S1 : Shape := ⟨1, ![1]⟩
abbrev S_ : Shape := ⟨0, ![]⟩
abbrev S768x1 : Shape := ⟨2, ![768, 1]⟩
abbrev S1x768 : Shape := ⟨2, ![1, 768]⟩
abbrev S4x1024x384 : Shape := ⟨3, ![4, 1024, 384]⟩
abbrev S1x384 : Shape := ⟨2, ![1, 384]⟩
abbrev S1x1 : Shape := ⟨2, ![1, 1]⟩
abbrev S1x1024x384 : Shape := ⟨3, ![1, 1024, 384]⟩
abbrev S1024x384 : Shape := ⟨2, ![1024, 384]⟩
abbrev S1024x768 : Shape := ⟨2, ![1024, 768]⟩
abbrev S256x4x768 : Shape := ⟨3, ![256, 4, 768]⟩
abbrev S256x768 : Shape := ⟨2, ![256, 768]⟩
abbrev S8x4x8x768 : Shape := ⟨4, ![8, 4, 8, 768]⟩
abbrev S8x8x768 : Shape := ⟨3, ![8, 8, 768]⟩
abbrev S64x768 : Shape := ⟨2, ![64, 768]⟩
abbrev S64x384 : Shape := ⟨2, ![64, 384]⟩
abbrev S1024x64 : Shape := ⟨2, ![1024, 64]⟩
abbrev S1024 : Shape := ⟨1, ![1024]⟩
abbrev S1024x1 : Shape := ⟨2, ![1024, 1]⟩
abbrev S64x64 : Shape := ⟨2, ![64, 64]⟩
abbrev S64 : Shape := ⟨1, ![64]⟩
abbrev S64x1 : Shape := ⟨2, ![64, 1]⟩
abbrev S384x64 : Shape := ⟨2, ![384, 64]⟩

abbrev nBuf : Space → Nat
  | .hbm => 29
  | .vmem => 10
  | .smem => 0
  | _ => 0

abbrev bufTy : (tb : Table) → Fin (tcTables nBuf tb) → BufTy
  | .hbm, ⟨0, _⟩ => ⟨S4x32x32x384, .f32⟩
  | .hbm, ⟨1, _⟩ => ⟨S768x384, .f32⟩
  | .hbm, ⟨2, _⟩ => ⟨S768, .f32⟩
  | .hbm, ⟨3, _⟩ => ⟨S384x384, .f32⟩
  | .hbm, ⟨4, _⟩ => ⟨S384, .f32⟩
  | .hbm, ⟨5, _⟩ => ⟨S1, .f32⟩
  | .hbm, ⟨6, _⟩ => ⟨S1, .f32⟩
  | .hbm, ⟨7, _⟩ => ⟨S768, .i32⟩
  | .hbm, ⟨8, _⟩ => ⟨S768, .i1⟩
  | .hbm, ⟨9, _⟩ => ⟨S768, .i1⟩
  | .hbm, ⟨10, _⟩ => ⟨S_, .i32⟩
  | .hbm, ⟨11, _⟩ => ⟨S768, .i32⟩
  | .hbm, ⟨12, _⟩ => ⟨S768, .i32⟩
  | .hbm, ⟨13, _⟩ => ⟨S768, .i32⟩
  | .hbm, ⟨14, _⟩ => ⟨S768x1, .i32⟩
  | .hbm, ⟨15, _⟩ => ⟨S768x384, .f32⟩
  | .hbm, ⟨16, _⟩ => ⟨S_, .i32⟩
  | .hbm, ⟨17, _⟩ => ⟨S768, .i32⟩
  | .hbm, ⟨18, _⟩ => ⟨S768, .i32⟩
  | .hbm, ⟨19, _⟩ => ⟨S768, .i32⟩
  | .hbm, ⟨20, _⟩ => ⟨S768x1, .i32⟩
  | .hbm, ⟨21, _⟩ => ⟨S768, .f32⟩
  | .hbm, ⟨22, _⟩ => ⟨S1x768, .f32⟩
  | .hbm, ⟨23, _⟩ => ⟨S4x1024x384, .f32⟩
  | .hbm, ⟨24, _⟩ => ⟨S1x384, .f32⟩
  | .hbm, ⟨25, _⟩ => ⟨S1x1, .f32⟩
  | .hbm, ⟨26, _⟩ => ⟨S1x1, .f32⟩
  | .hbm, ⟨27, _⟩ => ⟨S4x1024x384, .f32⟩
  | .hbm, ⟨28, _⟩ => ⟨S4x32x32x384, .f32⟩
  | .local _ .vmem, ⟨0, _⟩ => ⟨S1x1024x384, .f32⟩
  | .local _ .vmem, ⟨1, _⟩ => ⟨S1x1024x384, .f32⟩
  | .local _ .vmem, ⟨2, _⟩ => ⟨S768x384, .f32⟩
  | .local _ .vmem, ⟨3, _⟩ => ⟨S1x768, .f32⟩
  | .local _ .vmem, ⟨4, _⟩ => ⟨S384x384, .f32⟩
  | .local _ .vmem, ⟨5, _⟩ => ⟨S1x384, .f32⟩
  | .local _ .vmem, ⟨6, _⟩ => ⟨S1x1, .f32⟩
  | .local _ .vmem, ⟨7, _⟩ => ⟨S1x1, .f32⟩
  | .local _ .vmem, ⟨8, _⟩ => ⟨S1x1024x384, .f32⟩
  | .local _ .vmem, ⟨9, _⟩ => ⟨S1x1024x384, .f32⟩
  | _, _ => ⟨S4x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x32x32x384 : Shape := ⟨4, ![4, 32, 32, 384]⟩
abbrev S768x384 : Shape := ⟨2, ![768, 384]⟩
abbrev S768 : Shape := ⟨1, ![768]⟩
abbrev S384x384 : Shape := ⟨2, ![384, 384]⟩
abbrev S384 : Shape := ⟨1, ![384]⟩
abbrev S1 : Shape := ⟨1, ![1]⟩
abbrev S384x768 : Shape := ⟨2, ![384, 768]⟩
abbrev S4x32x32x768 : Shape := ⟨4, ![4, 32, 32, 768]⟩
abbrev S1x1x1x768 : Shape := ⟨4, ![1, 1, 1, 768]⟩
abbrev S4x768x32x32 : Shape := ⟨4, ![4, 768, 32, 32]⟩
abbrev S24x128x32x32 : Shape := ⟨4, ![24, 128, 32, 32]⟩
abbrev S24x128x1024 : Shape := ⟨3, ![24, 128, 1024]⟩
abbrev S24x64x1024 : Shape := ⟨3, ![24, 64, 1024]⟩
abbrev S24x128x8x4x8x4 : Shape := ⟨6, ![24, 128, 8, 4, 8, 4]⟩
abbrev S_ : Shape := ⟨0, ![]⟩
abbrev S24x128x8x8 : Shape := ⟨4, ![24, 128, 8, 8]⟩
abbrev S24x128x64 : Shape := ⟨3, ![24, 128, 64]⟩
abbrev S24x64x64 : Shape := ⟨3, ![24, 64, 64]⟩
abbrev S24x1024 : Shape := ⟨2, ![24, 1024]⟩
abbrev S24x1x1024 : Shape := ⟨3, ![24, 1, 1024]⟩
abbrev S24x64 : Shape := ⟨2, ![24, 64]⟩
abbrev S24x1x64 : Shape := ⟨3, ![24, 1, 64]⟩
abbrev S24x1024x64 : Shape := ⟨3, ![24, 1024, 64]⟩
abbrev S24x1024x1 : Shape := ⟨3, ![24, 1024, 1]⟩
abbrev S1x1x64 : Shape := ⟨3, ![1, 1, 64]⟩
abbrev S4x384x32x32 : Shape := ⟨4, ![4, 384, 32, 32]⟩
abbrev S1x1x1x384 : Shape := ⟨4, ![1, 1, 1, 384]⟩

abbrev nBuf : Space → Nat
  | .hbm => 88
  | .vmem => 0
  | .smem => 0
  | _ => 0

abbrev bufTy : (tb : Table) → Fin (tcTables nBuf tb) → BufTy
  | .hbm, ⟨0, _⟩ => ⟨S4x32x32x384, .f32⟩
  | .hbm, ⟨1, _⟩ => ⟨S768x384, .f32⟩
  | .hbm, ⟨2, _⟩ => ⟨S768, .f32⟩
  | .hbm, ⟨3, _⟩ => ⟨S384x384, .f32⟩
  | .hbm, ⟨4, _⟩ => ⟨S384, .f32⟩
  | .hbm, ⟨5, _⟩ => ⟨S1, .f32⟩
  | .hbm, ⟨6, _⟩ => ⟨S1, .f32⟩
  | .hbm, ⟨7, _⟩ => ⟨S384x768, .f32⟩
  | .hbm, ⟨8, _⟩ => ⟨S4x32x32x768, .f32⟩
  | .hbm, ⟨9, _⟩ => ⟨S1x1x1x768, .f32⟩
  | .hbm, ⟨10, _⟩ => ⟨S4x32x32x768, .f32⟩
  | .hbm, ⟨11, _⟩ => ⟨S4x32x32x768, .f32⟩
  | .hbm, ⟨12, _⟩ => ⟨S4x768x32x32, .f32⟩
  | .hbm, ⟨13, _⟩ => ⟨S24x128x32x32, .f32⟩
  | .hbm, ⟨14, _⟩ => ⟨S24x128x1024, .f32⟩
  | .hbm, ⟨15, _⟩ => ⟨S24x64x1024, .f32⟩
  | .hbm, ⟨16, _⟩ => ⟨S24x64x1024, .f32⟩
  | .hbm, ⟨17, _⟩ => ⟨S24x128x8x4x8x4, .f32⟩
  | .hbm, ⟨18, _⟩ => ⟨S_, .f32⟩
  | .hbm, ⟨19, _⟩ => ⟨S24x128x8x8, .f32⟩
  | .hbm, ⟨20, _⟩ => ⟨S24x128x64, .f32⟩
  | .hbm, ⟨21, _⟩ => ⟨S24x64x64, .f32⟩
  | .hbm, ⟨22, _⟩ => ⟨S24x64x64, .f32⟩
  | .hbm, ⟨23, _⟩ => ⟨S24x64x1024, .f32⟩
  | .hbm, ⟨24, _⟩ => ⟨S_, .f32⟩
  | .hbm, ⟨25, _⟩ => ⟨S24x1024, .f32⟩
  | .hbm, ⟨26, _⟩ => ⟨S24x1x1024, .f32⟩
  | .hbm, ⟨27, _⟩ => ⟨S24x1x1024, .f32⟩
  | .hbm, ⟨28, _⟩ => ⟨S_, .f32⟩
  | .hbm, ⟨29, _⟩ => ⟨S24x1x1024, .f32⟩
  | .hbm, ⟨30, _⟩ => ⟨S24x1x1024, .f32⟩
  | .hbm, ⟨31, _⟩ => ⟨S24x64x1024, .f32⟩
  | .hbm, ⟨32, _⟩ => ⟨S24x64x1024, .f32⟩
  | .hbm, ⟨33, _⟩ => ⟨S24x64x64, .f32⟩
  | .hbm, ⟨34, _⟩ => ⟨S_, .f32⟩
  | .hbm, ⟨35, _⟩ => ⟨S24x64, .f32⟩
  | .hbm, ⟨36, _⟩ => ⟨S24x1x64, .f32⟩
  | .hbm, ⟨37, _⟩ => ⟨S24x1x64, .f32⟩
  | .hbm, ⟨38, _⟩ => ⟨S_, .f32⟩
  | .hbm, ⟨39, _⟩ => ⟨S24x1x64, .f32⟩
  | .hbm, ⟨40, _⟩ => ⟨S24x1x64, .f32⟩
  | .hbm, ⟨41, _⟩ => ⟨S24x64x64, .f32⟩
  | .hbm, ⟨42, _⟩ => ⟨S24x64x64, .f32⟩
  | .hbm, ⟨43, _⟩ => ⟨S24x1024x64, .f32⟩
  | .hbm, ⟨44, _⟩ => ⟨S_, .f32⟩
  | .hbm, ⟨45, _⟩ => ⟨S24x1024x64, .f32⟩
  | .hbm, ⟨46, _⟩ => ⟨S24x1024x64, .f32⟩
  | .hbm, ⟨47, _⟩ => ⟨S_, .f32⟩
  | .hbm, ⟨48, _⟩ => ⟨S24x1024x64, .f32⟩
  | .hbm, ⟨49, _⟩ => ⟨S24x1024x64, .f32⟩
  | .hbm, ⟨50, _⟩ => ⟨S24x1024x64, .f32⟩
  | .hbm, ⟨51, _⟩ => ⟨S24x1024x64, .f32⟩
  | .hbm, ⟨52, _⟩ => ⟨S_, .f32⟩
  | .hbm, ⟨53, _⟩ => ⟨S24x1024x64, .f32⟩
  | .hbm, ⟨54, _⟩ => ⟨S24x1024x64, .f32⟩
  | .hbm, ⟨55, _⟩ => ⟨S_, .f32⟩
  | .hbm, ⟨56, _⟩ => ⟨S24x1024x64, .f32⟩
  | .hbm, ⟨57, _⟩ => ⟨S24x1024x64, .f32⟩
  | .hbm, ⟨58, _⟩ => ⟨S24x1024x64, .i32⟩
  | .hbm, ⟨59, _⟩ => ⟨S_, .f32⟩
  | .hbm, ⟨60, _⟩ => ⟨S_, .i32⟩
  | .hbm, ⟨61, _⟩ => ⟨S24x1024, .f32⟩
  | .hbm, ⟨62, _⟩ => ⟨S24x1024, .i32⟩
  | .hbm, ⟨63, _⟩ => ⟨S24x1024x1, .i32⟩
  | .hbm, ⟨64, _⟩ => ⟨S1x1x64, .i32⟩
  | .hbm, ⟨65, _⟩ => ⟨S24x1024x64, .i32⟩
  | .hbm, ⟨66, _⟩ => ⟨S24x1024x64, .i32⟩
  | .hbm, ⟨67, _⟩ => ⟨S24x1024x64, .i1⟩
  | .hbm, ⟨68, _⟩ => ⟨S24x1024x64, .f32⟩
  | .hbm, ⟨69, _⟩ => ⟨S24x1024x64, .f32⟩
  | .hbm, ⟨70, _⟩ => ⟨S24x64x64, .f32⟩
  | .hbm, ⟨71, _⟩ => ⟨S24x64x64, .f32⟩
  | .hbm, ⟨72, _⟩ => ⟨S_, .f32⟩
  | .hbm, ⟨73, _⟩ => ⟨S24x64, .f32⟩
  | .hbm, ⟨74, _⟩ => ⟨S_, .f32⟩
  | .hbm, ⟨75, _⟩ => ⟨S24x64, .f32⟩
  | .hbm, ⟨76, _⟩ => ⟨S24x64, .f32⟩
  | .hbm, ⟨77, _⟩ => ⟨S24x1x64, .f32⟩
  | .hbm, ⟨78, _⟩ => ⟨S24x64x64, .f32⟩
  | .hbm, ⟨79, _⟩ => ⟨S24x64x64, .f32⟩
  | .hbm, ⟨80, _⟩ => ⟨S24x64x1024, .f32⟩
  | .hbm, ⟨81, _⟩ => ⟨S4x384x32x32, .f32⟩
  | .hbm, ⟨82, _⟩ => ⟨S4x32x32x384, .f32⟩
  | .hbm, ⟨83, _⟩ => ⟨S384x384, .f32⟩
  | .hbm, ⟨84, _⟩ => ⟨S4x32x32x384, .f32⟩
  | .hbm, ⟨85, _⟩ => ⟨S1x1x1x384, .f32⟩
  | .hbm, ⟨86, _⟩ => ⟨S4x32x32x384, .f32⟩
  | .hbm, ⟨87, _⟩ => ⟨S4x32x32x384, .f32⟩
  | _, _ => ⟨S4x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_cst : Ref sig .tc := ⟨.hbm, 59, rfl⟩
abbrev main_call0_c : Ref sig .tc := ⟨.hbm, 60, rfl⟩
abbrev main_call0_v1_0 : Ref sig .tc := ⟨.hbm, 61, rfl⟩
abbrev main_v44 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Proof.Spec.lean ====
/-
  The mathematics of the layer, stated over the extended reals and free of either program.

  The layer projects every token of an image to `768` channels. Six heads own `128` consecutive channels each: the first
  `64` are the token's POINT, the last `64` its VALUE. The `64` CENTRES of a head are the maxima of the same channels over
  the `4 × 4` blocks of the image. A token's score at a centre is the logistic function of an affine function of the
  cosine of their points; a token keeps its score at its best centre alone (the first of them, on a tie). A centre's
  message is the mean of the values of the tokens it holds, weighted by the kept scores, with the centre's own value
  joining in at weight one; the message goes back to the token at its kept score, and a last linear map closes the layer.
-/
module

public import Idealize.ShloMosaic.Lib.Pointwise

@[expose] public section

set_option maxRecDepth 16384

noncomputable section

namespace Cert.Cluster

open Idealize.ShloMosaic

/-- The least norm a row is divided by. -/
def eps : EReal := Ideal.ofBits .f32 0x2B8CBCCC#32

/-- A row divided by its Euclidean norm, or by `eps` where the norm is smaller. -/
def unit (p : Fin 64 → EReal) (d : Fin 64) : EReal :=
  Ideal.div (p d) (max (Ideal.sqrt (∑ e : Fin 64, p e * p e)) eps)

/-- The score of a token's point `p` at a centre's point `q`. -/
def score (al be : EReal) (p q : Fin 64 → EReal) : EReal :=
  Ideal.logistic (al * (∑ d : Fin 64, unit p d * unit q d) + be)

/-- Position `a` is the first at which `s` is largest. -/
def IsFirst (s : Fin 64 → EReal) (a : Fin 64) : Prop :=
  (∀ b, s b ≤ s a) ∧ ∀ b, b < a → s b < s a

open Classical in
/-- A row of scores with all but its first largest entry set to zero. -/
def keep (s : Fin 64 → EReal) (a : Fin 64) : EReal := if IsFirst s a then s a else 0

/-- The kept scores of one head: token `t` at centre `a`. -/
def weight (al be : EReal) (p : Fin 1024 → Fin 64 → EReal) (q : Fin 64 → Fin 64 → EReal) (t : Fin 1024) (a : Fin 64) :
    EReal :=
  keep (fun b => score al be (p t) (q b)) a

/-- The total weight at a centre, the centre's own weight of one included. -/
def total (K : Fin 1024 → Fin 64 → EReal) (a : Fin 64) : EReal := (∑ t : Fin 1024, K t a) + 1

/-- The weighted sum of the values at a centre, the centre's own value included. -/
def gathered (K : Fin 1024 → Fin 64 → EReal) (v : Fin 1024 → Fin 64 → EReal) (w : Fin 64 → Fin 64 → EReal) (a d : Fin 64) :
    EReal :=
  (∑ t : Fin 1024, K t a * v t d) + w a d

/-- What a token receives: the messages of the centres at its kept scores. -/
def mix (K : Fin 1024 → Fin 64 → EReal) (v : Fin 1024 → Fin 64 → EReal) (w : Fin 64 → Fin 64 → EReal) (t : Fin 1024)
    (d : Fin 64) : EReal :=
  ∑ a : Fin 64, K t a * Ideal.div (gathered K v w a d) (total K a)

/-- The token in row `i`, column `j` of block `a` (blocks in row-major order). -/
def cell (a : Fin 64) (i j : Fin 4) : Fin 1024 := ⟨32 * (4 * (a.val / 8) + i.val) + (4 * (a.val % 8) + j.val), by omega⟩

/-- The maximum of `f` over block `a`. -/
def pool (f : Fin 1024 → EReal) (a : Fin 64) : EReal := ⨆ i : Fin 4, ⨆ j : Fin 4, f (cell a i j)

/-- What head `h` gives token `t` from the projected channels `P` of one image. -/
def head (al be : EReal) (P : Fin 1024 → Fin 768 → EReal) (h : Fin 6) (t : Fin 1024) (d : Fin 64) : EReal :=
  mix (weight al be (fun t d => P t ⟨128 * h.val + d.val, by omega⟩)
      (fun a d => pool (fun t => P t ⟨128 * h.val + d.val, by omega⟩) a))
    (fun t d => P t ⟨128 * h.val + (64 + d.val), by omega⟩)
    (fun a d => pool (fun t => P t ⟨128 * h.val + (64 + d.val), by omega⟩) a) t d

/-- The layer's result at token `t`, output channel `o`, from the projected channels of the token's image. -/
def layer (al be : EReal) (P : Fin 1024 → Fin 768 → EReal) (OW : Fin 384 → Fin 384 → EReal) (OB : Fin 384 → EReal)
    (t : Fin 1024) (o : Fin 384) : EReal :=
  (∑ c : Fin 384, head al be P ⟨c.val / 64, by omega⟩ t ⟨c.val % 64, by omega⟩ * OW o c) + OB o

/-- Token `t` of image `n` projected to channel `c`. -/
def channels (X : FVec Ideal ⟨4, ![4, 32, 32, 384]⟩ .f32) (W : FVec Ideal ⟨2, ![768, 384]⟩ .f32) (B : FVec Ideal ⟨1, ![768]⟩ .f32) (n : Fin 4)
    (t : Fin 1024) (c : Fin 768) : EReal :=
  (∑ k : Fin 384, X (ix4 n ⟨t.val / 32, by omega⟩ ⟨t.val % 32, by omega⟩ k) * W (ix2 c k)) + B (ix1 c)

/-! ### Facts -/

/-- At most one position is the first largest. -/
theorem IsFirst.unique {s : Fin 64 → EReal} {a b : Fin 64} (ha : IsFirst s a) (hb : IsFirst s b) : a = b := by
  rcases lt_trichotomy a b with h | h | h
  · exact absurd (hb.2 a h) (not_lt.2 (ha.1 b))
  · exact h
  · exact absurd (ha.2 b h) (not_lt.2 (hb.1 a))

/-- With `a` the first largest position, `keep s` is `s a` there and zero elsewhere. -/
theorem keep_eq {s : Fin 64 → EReal} {a : Fin 64} (ha : IsFirst s a) (b : Fin 64) : keep s b = if b = a then s b else 0 := by
  unfold keep
  by_cases h : b = a
  · subst h; rw [if_pos ha, if_pos rfl]
  · rw [if_neg fun hb => h (hb.unique ha), if_neg h]

/-- The logistic function is nowhere negative. -/
theorem logistic_nonneg (x : EReal) : 0 ≤ Ideal.logistic x := by
  induction x using EReal.rec with
  | bot => rw [Ideal.logistic_bot]
  | top => rw [Ideal.logistic_top]; exact zero_le_one
  | coe r =>
    rw [Ideal.logistic_coe]
    exact EReal.coe_nonneg.2 (inv_nonneg.2 (by positivity))

/-- A kept score is nowhere negative. -/
theorem weight_nonneg (al be : EReal) (p : Fin 1024 → Fin 64 → EReal) (q : Fin 64 → Fin 64 → EReal) (t : Fin 1024)
    (a : Fin 64) : 0 ≤ weight al be p q t a := by
  unfold weight keep
  split
  · exact logistic_nonneg _
  · exact le_rfl

/-- The total weight at a centre is not zero, no weight being negative. -/
theorem total_ne_zero {K : Fin 1024 → Fin 64 → EReal} (hK : ∀ t a, 0 ≤ K t a) (a : Fin 64) : total K a ≠ 0 := by
  unfold total
  have h : (0 : EReal) ≤ ∑ t : Fin 1024, K t a := Finset.sum_nonneg fun t _ => hK t a
  have h1 : (0 : EReal) < (∑ t : Fin 1024, K t a) + 1 := by
    calc (0 : EReal) < 1 := zero_lt_one
      _ = 0 + 1 := (zero_add 1).symm
      _ ≤ (∑ t : Fin 1024, K t a) + 1 := by gcongr
  exact h1.ne'

/-- Dividing one factor or the other of a product by a nonzero value is the same. -/
theorem div_mul_comm {y : EReal} (hy : y ≠ 0) (x z : EReal) : Ideal.div x y * z = x * Ideal.div z y := by
  unfold Ideal.div
  rw [if_neg hy, if_neg hy, mul_assoc, mul_comm y⁻¹ z]

/-- The message divided at the score instead of at the gathered value. -/
theorem mix_eq {K : Fin 1024 → Fin 64 → EReal} (hK : ∀ t a, 0 ≤ K t a) (v : Fin 1024 → Fin 64 → EReal)
    (w : Fin 64 → Fin 64 → EReal) (t : Fin 1024) (d : Fin 64) :
    mix K v w t d = ∑ a : Fin 64, Ideal.div (K t a) (total K a) * gathered K v w a d :=
  Finset.sum_congr rfl fun a _ => (div_mul_comm (total_ne_zero hK a) _ _).symm

/-- Position `d` of head `h` among the `384` channels that the six heads fill side by side. -/
def at6 (h : Fin 6) (d : Fin 64) : Fin 384 := ⟨h.val * 64 + d.val, by omega⟩

/-- Every one of the `384` positions is some head's. -/
theorem at6_div_mod (c : Fin 384) : at6 ⟨c.val / 64, by omega⟩ ⟨c.val % 64, by omega⟩ = c :=
  Fin.ext (by show c.val / 64 * 64 + c.val % 64 = c.val; omega)

/-- The head of a position. -/
theorem at6_div (h : Fin 6) (d : Fin 64) : (at6 h d).val / 64 = h.val := by
  show (h.val * 64 + d.val) / 64 = h.val; omega

/-- A position within its head. -/
theorem at6_mod (h : Fin 6) (d : Fin 64) : (at6 h d).val % 64 = d.val := by
  show (h.val * 64 + d.val) % 64 = d.val; omega

/-- A sum over the `384` positions against a factor that vanishes outside head `h` is the sum over that head. -/
theorem sum_head (f g : Fin 384 → EReal) (h : Fin 6) (hg : ∀ k : Fin 384, k.val / 64 ≠ h.val → g k = 0) :
    ∑ k : Fin 384, f k * g k = ∑ d : Fin 64, f (at6 h d) * g (at6 h d) := by
  rw [Fin.sum_univ_tiles 6 64 rfl]
  refine Finset.sum_eq_single_of_mem h (Finset.mem_univ h) fun j _ hj => ?_
  refine Finset.sum_eq_zero fun d _ => ?_
  have hz : g (at6 j d) = 0 := hg _ (by rw [at6_div]; exact fun e => hj (Fin.ext e))
  show f (at6 j d) * g (at6 j d) = 0
  rw [hz, mul_zero]

/-- The running maximum from the least value up is the least upper bound. -/
theorem fold_max_eq {n : ℕ} (f : Fin n → EReal) : (Finset.univ : Finset (Fin n)).fold max ⊥ f = ⨆ i, f i := by
  refine le_antisymm ?_ (iSup_le fun i => ?_)
  · exact (Finset.fold_max_le _).2 ⟨bot_le, fun i _ => le_iSup f i⟩
  · exact (Finset.le_fold_max _).2 (Or.inr ⟨i, Finset.mem_univ i, le_rfl⟩)

/-- Every row has a first largest position. -/
theorem exists_first (s : Fin 64 → EReal) : ∃ a, IsFirst s a := by
  classical
  obtain ⟨b, -, hb⟩ := Finset.exists_max_image Finset.univ s ⟨0, Finset.mem_univ _⟩
  have hne : (Finset.univ.filter fun a => s a = s b).Nonempty := ⟨b, by simp⟩
  refine ⟨(Finset.univ.filter fun a => s a = s b).min' hne, ?_, ?_⟩
  · have h := Finset.min'_mem _ hne
    rw [Finset.mem_filter] at h
    exact fun c => (hb c (Finset.mem_univ c)).trans h.2.ge
  · intro c hc
    have h := Finset.min'_mem _ hne
    rw [Finset.mem_filter] at h
    refine lt_of_le_of_ne ((hb c (Finset.mem_univ c)).trans h.2.ge) fun e => ?_
    exact absurd (Finset.min'_le _ c (Finset.mem_filter.2 ⟨Finset.mem_univ c, e.trans h.2⟩)) (not_le.2 hc)

/-- The word the running maximum starts from is the least value. -/
theorem ofBits_least : Ideal.ofBits .f32 0xFF800000#32 = ⊥ := by
  simp [Ideal.ofBits, Ideal.ieee]

/-- The largest value of a row is the value at its first largest position. -/
theorem fold_max_first {s : Fin 64 → EReal} {a : Fin 64} (ha : IsFirst s a) :
    (Finset.univ : Finset (Fin 64)).fold max ⊥ s = s a := by
  rw [fold_max_eq]
  exact le_antisymm (iSup_le ha.1) (le_iSup s a)

end Cert.Cluster

end
-- ==== Proof.Rows.lean ====
/-
  The vector expressions of the kernel body that occur once per head, or once per operand, and what each is at an index.
-/
module

public import proofs.«01_k».proof.Proof.Gen.KernelIdeal.Frame
public import proofs.«01_k».proof.Proof.Spec
public import Idealize.ShloMosaic.Lib.Pointwise
public import Idealize.ShloMosaic.Lib.Pointwise.IndexVar

@[expose] public section

set_option maxRecDepth 16384

noncomputable section

namespace Cert.KernelIdeal.Block

open Cert.KernelIdeal Cert.KernelIdeal.Gen Idealize.ShloMosaic Idealize.ShloMosaic.TcCoe Idealize.SL.Sem Cert.Cluster

/-! ### Six pieces of width 64 laid one after another -/

/-- Searching the pieces of width `64` for position `64 h + d` finds entry `d` of piece `h`. -/
theorem ladder6 {α : Type} (g : Fin 6 → Fin 64 → α) (h : Fin 6) (d : Fin 64) (c : ℕ) (hc : c = h.val * 64 + d.val)
    (hl : c - 64 - 64 - 64 - 64 - 64 < 64) :
    (if h0 : c < 64 then g 0 ⟨c, h0⟩ else if h1 : c - 64 < 64 then g 1 ⟨c - 64, h1⟩
      else if h2 : c - 64 - 64 < 64 then g 2 ⟨c - 64 - 64, h2⟩
      else if h3 : c - 64 - 64 - 64 < 64 then g 3 ⟨c - 64 - 64 - 64, h3⟩
      else if h4 : c - 64 - 64 - 64 - 64 < 64 then g 4 ⟨c - 64 - 64 - 64 - 64, h4⟩
      else g 5 ⟨c - 64 - 64 - 64 - 64 - 64, hl⟩) = g h d := by
  have hd := d.isLt
  have key : ∀ (k : Fin 6) (e : ℕ) (he : e < 64), c = k.val * 64 + e → g k ⟨e, he⟩ = g h d := by
    intro k e he hk
    have h1 : k = h := Fin.ext (by omega)
    have h2 : (⟨e, he⟩ : Fin 64) = d := Fin.ext (by subst h1; show e = d.val; omega)
    rw [h1, h2]
  split_ifs
  · exact key 0 _ _ (by show c = 0 * 64 + _; omega)
  · exact key 1 _ _ (by show c = 1 * 64 + _; omega)
  · exact key 2 _ _ (by show c = 2 * 64 + _; omega)
  · exact key 3 _ _ (by show c = 3 * 64 + _; omega)
  · exact key 4 _ _ (by show c = 4 * 64 + _; omega)
  · exact key 5 _ _ (by show c = 5 * 64 + _; have := h.isLt; omega)

/-- What is left of a position after five pieces falls in the sixth. -/
theorem last6 (h : Fin 6) (d : Fin 64) : (at6 h d).val - 64 - 64 - 64 - 64 - 64 < 64 := by
  have := (at6 h d).isLt
  omega

/-- Six pieces of `64` columns side by side, at the column of head `h` and position `d`. -/
theorem beside_apply {N : ℕ} (f : Fin 6 → FVec Ideal ⟨2, ![N, 64]⟩ .f32) (hc) (t : Fin N) (h : Fin 6) (d : Fin 64) :
    concatenate ⟨2, ![N, 384]⟩ 1 [⟨⟨2, ![N, 64]⟩, f 0⟩, ⟨⟨2, ![N, 64]⟩, f 1⟩, ⟨⟨2, ![N, 64]⟩, f 2⟩, ⟨⟨2, ![N, 64]⟩, f 3⟩,
      ⟨⟨2, ![N, 64]⟩, f 4⟩, ⟨⟨2, ![N, 64]⟩, f 5⟩] hc (ix2 t (at6 h d)) = f h (ix2 t d) := by
  pointwise
  exact ladder6 (fun k e => f k (ix2 t e)) h d (at6 h d).val rfl (last6 h d)

/-- One piece of `64` rows six times over, at the row of head `h` and position `d`. -/
theorem below_apply {N : ℕ} (f : FVec Ideal ⟨2, ![64, N]⟩ .f32) (hc) (t : Fin N) (h : Fin 6) (d : Fin 64) :
    concatenate ⟨2, ![384, N]⟩ 0 [⟨⟨2, ![64, N]⟩, f⟩, ⟨⟨2, ![64, N]⟩, f⟩, ⟨⟨2, ![64, N]⟩, f⟩, ⟨⟨2, ![64, N]⟩, f⟩,
      ⟨⟨2, ![64, N]⟩, f⟩, ⟨⟨2, ![64, N]⟩, f⟩] hc (ix2 (at6 h d) t) = f (ix2 d t) := by
  pointwise
  exact ladder6 (fun _ e => f (ix2 e t)) h d (at6 h d).val rfl (last6 h d)

/-! ### The rows of one head divided by their norms -/

/-- Head `h`'s columns lie inside the `384` of a token. -/
theorem tokSlice : ∀ h : Fin 6, S1024x384.Slices ![0, h.val * 64] S1024x64 := by decide +kernel

/-- Head `h`'s columns lie inside the `384` of a centre. -/
theorem ctrSlice : ∀ h : Fin 6, S64x384.Slices ![0, h.val * 64] S64x64 := by decide +kernel

/-- Head `h`'s columns of every token, each row divided by its norm. -/
def unitTok (v : FVec Ideal S1024x384 .f32) (h : Fin 6) : FVec Ideal S1024x64 .f32 :=
  divf (extractStridedSlice S1024x64 ![0, h.val * 64] v (tokSlice h))
    (broadcastTo S1024x64
      (maximumf (sqrt (shapeCast S1024x1 (multiReduction .add [1] S1024
          (mulf (extractStridedSlice S1024x64 ![0, h.val * 64] v (tokSlice h))
            (extractStridedSlice S1024x64 ![0, h.val * 64] v (tokSlice h)))
          0x00000000#32 reduces_S1024x64_S1024 (.inl rfl) rfl) shapeCasts_S1024_S1024x1))
        (broadcast S1024x1 (Scalar.ofBits .f32 0x2B8CBCCC#32)))
      broadcasts_S1024x1_S1024x64)

/-- `unitTok` at an index. -/
theorem unitTok_apply (v : FVec Ideal S1024x384 .f32) (h : Fin 6) (t : Fin 1024) (d : Fin 64) :
    unitTok v h (ix2 t d) = unit (fun e => v (ix2 t (at6 h e))) d := by
  pointwise [unitTok]
  rfl

/-- Head `h`'s columns of every centre, each row divided by its norm. -/
def unitCtr (v : FVec Ideal S64x384 .f32) (h : Fin 6) : FVec Ideal S64x64 .f32 :=
  divf (extractStridedSlice S64x64 ![0, h.val * 64] v (ctrSlice h))
    (broadcastTo S64x64
      (maximumf (sqrt (shapeCast S64x1 (multiReduction .add [1] S64
          (mulf (extractStridedSlice S64x64 ![0, h.val * 64] v (ctrSlice h))
            (extractStridedSlice S64x64 ![0, h.val * 64] v (ctrSlice h)))
          0x00000000#32 reduces_S64x64_S64 (.inl rfl) rfl) shapeCasts_S64_S64x1))
        (broadcast S64x1 (Scalar.ofBits .f32 0x2B8CBCCC#32)))
      broadcasts_S64x1_S64x64)

/-- `unitCtr` at an index. -/
theorem unitCtr_apply (v : FVec Ideal S64x384 .f32) (h : Fin 6) (a d : Fin 64) :
    unitCtr v h (ix2 a d) = unit (fun e => v (ix2 a (at6 h e))) d := by
  pointwise [unitCtr]
  rfl

/-! ### Keeping the first largest entry of a row -/

/-- Head `h`'s scores of every token with all but the first largest set to zero: the largest score, the least column at
    which it stands, and the score kept where the column is that one. -/
def keepRows (v : FVec Ideal S1024x384 .f32) (h : Fin 6) : FVec Ideal S1024x64 .f32 :=
  select
    (cmpi .eq (iota .tc S1024x64 32 [1] iota_S1024x64_d1_w32)
      (broadcastTo S1024x64 (shapeCast S1024x1 (multiReductionI .minsi [1] S1024
        (select
          (cmpf .oeq (extractStridedSlice S1024x64 ![0, h.val * 64] v (tokSlice h))
            (broadcastTo S1024x64 (shapeCast S1024x1 (multiReduction .maximumf [1] S1024
                (extractStridedSlice S1024x64 ![0, h.val * 64] v (tokSlice h)) 0xFF800000#32 reduces_S1024x64_S1024 (.inl rfl) rfl)
              shapeCasts_S1024_S1024x1) broadcasts_S1024x1_S1024x64))
          (iota .tc S1024x64 32 [1] iota_S1024x64_d1_w32) (broadcast S1024x64 64#32))
        2147483647#32 reduces_S1024x64_S1024 rfl) shapeCasts_S1024_S1024x1) broadcasts_S1024x1_S1024x64))
    (extractStridedSlice S1024x64 ![0, h.val * 64] v (tokSlice h))
    (broadcast S1024x64 (Scalar.ofBits (F := Ideal) .f32 0x00000000#32))

/-- The word of the least column at which `s` reaches its maximum is that of the first largest position. -/
theorem fold_first (s : Fin 64 → EReal) (a : Fin 64) (ha : IsFirst s a) (m : EReal) (hm : m = s a) :
    (Finset.univ : Finset (Fin 64)).fold IntOp.minsi 2147483647#32
      (fun x => if s x = m then BitVec.ofNat 32 x.val else 64#32) = BitVec.ofNat 32 a.val := by
  subst hm
  have hint : ∀ x : Fin 64, (BitVec.ofNat 32 x.val).toInt = (x.val : ℤ) := by decide +kernel
  have hmin : ∀ x y : BitVec 32, (IntOp.minsi x y).toInt = min x.toInt y.toInt := by
    intro x y
    unfold IntOp.minsi
    rw [BitVec.slt_eq_decide]
    by_cases hxy : x.toInt < y.toInt
    · simp [hxy, hxy.le]
    · simp [hxy, not_lt.1 hxy]
  apply BitVec.eq_of_toInt_eq
  rw [← Finset.fold_hom (op' := min) hmin, hint]
  refine le_antisymm ?_ ?_
  · refine (Finset.fold_min_le _).2 (Or.inr ⟨a, Finset.mem_univ a, ?_⟩)
    rw [if_pos rfl, hint]
  · refine (Finset.le_fold_min _).2 ⟨?_, fun x _ => ?_⟩
    · have := a.isLt
      have h2 : (2147483647#32 : BitVec 32).toInt = 2147483647 := by decide
      rw [h2]; omega
    · split
      · rename_i hx
        rw [hint]
        by_contra hlt
        have hxa : x < a := Fin.lt_def.2 (by omega)
        exact absurd hx (ha.2 x hxa).ne
      · have := a.isLt
        have h2 : (64#32 : BitVec 32).toInt = 64 := by decide
        rw [h2]; omega

/-- Selecting on the equality of the words of two columns is selecting on the equality of the columns. -/
theorem select_word_eq (a b : Fin 64) (x y : EReal) :
    Scalar.select (IntOp.cmpi .eq (BitVec.ofNat 32 a.val) (BitVec.ofNat 32 b.val)) x y = if a = b then x else y := by
  have hw : ∀ a b : Fin 64, IntOp.cmpi .eq (BitVec.ofNat 32 a.val) (BitVec.ofNat 32 b.val) = BitVec.ofBool (decide (a = b)) := by
    decide +kernel
  rw [hw]
  by_cases hab : a = b
  · simp [hab, Scalar.select]
  · simp [hab, Scalar.select]

/-- `keepRows` at an index. -/
theorem keepRows_apply (v : FVec Ideal S1024x384 .f32) (h : Fin 6) (t : Fin 1024) (a : Fin 64) :
    keepRows v h (ix2 t a) = keep (fun b => v (ix2 t (at6 h b))) a := by
  obtain ⟨b, hb⟩ := exists_first fun b => v (ix2 t (at6 h b))
  rw [keep_eq hb]
  pointwise [keepRows]
  rw [ofBits_least]
  erw [fold_first (fun b => v (ix2 t (at6 h b))) b hb _ (fold_max_first hb)]
  show Scalar.select (IntOp.cmpi .eq (BitVec.ofNat 32 a.val) (BitVec.ofNat 32 b.val)) (v (ix2 t (at6 h a))) 0 = _
  exact select_word_eq a b _ _

end Cert.KernelIdeal.Block

end
-- ==== Proof.Block.lean ====
/-
  What the kernel body leaves in its result block, at every index, from the blocks it is given: the layer's formula, with
  the channels in the order of the block of projection weights (all heads' points first, all heads' values after).
-/
module

public import proofs.«01_k».proof.Proof.Rows

@[expose] public section

set_option maxRecDepth 16384

noncomputable section

namespace Cert.KernelIdeal.Block

open Cert.KernelIdeal Cert.KernelIdeal.Gen Idealize.ShloMosaic Idealize.ShloMosaic.TcCoe Idealize.SL.Sem Cert.Cluster

/-! ### The mask of equal heads -/

/-- The word of a position's head, as the body computes it: the quotient by `64`, corrected for signs. -/
theorem head_word : ∀ t : Fin 384,
    Scalar.select
        (IntOp.andi
          (IntOp.cmpi CmpIPredicate.ne
            (IntOp.subi (BitVec.setWidth 32 (IntOp.cmpi CmpIPredicate.sgt (BitVec.ofNat 32 t.val) 0#32))
              (BitVec.setWidth 32 (IntOp.cmpi CmpIPredicate.slt (BitVec.ofNat 32 t.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 t.val) 64#32) 0#32))
        (IntOp.subi (IntOp.divsi ArithUnit.vector (BitVec.ofNat 32 t.val) 64#32) 1#32)
        (IntOp.divsi ArithUnit.vector (BitVec.ofNat 32 t.val) 64#32) = BitVec.ofNat 32 (t.val / 64) := by decide +kernel

/-- The mask of pairs of positions of one head. -/
def sameHead : IVec S384x384 1 :=
  k0_pay23 (iota .tc S384x384 32 [0] iota_S384x384_d0_w32) 64#32 k0_pay21 k0_pay22 (Scalar.cmpi .sgt 64#32 0#32)

/-- Selecting by the mask is selecting on the equality of the heads. -/
theorem select_sameHead (r c : Fin 384) (x y : EReal) :
    Scalar.select (sameHead (ix2 r c)) x y = if r.val / 64 = c.val / 64 then x else y := by
  have e : sameHead (ix2 r c) = IntOp.cmpi .eq (BitVec.ofNat 32 (r.val / 64)) (BitVec.ofNat 32 (c.val / 64)) := by
    pointwise [sameHead, k0_pay23, k0_pay21, k0_pay22]
    rw [head_word r, head_word c]
  have hw : ∀ a b : Fin 6, IntOp.cmpi .eq (BitVec.ofNat 32 a.val) (BitVec.ofNat 32 b.val) = BitVec.ofBool (decide (a.val = b.val)) := by
    decide +kernel
  rw [e, hw ⟨r.val / 64, by omega⟩ ⟨c.val / 64, by omega⟩]
  by_cases h : r.val / 64 = c.val / 64
  · simp [h, Scalar.select]
  · simp [h, Scalar.select]

/-! ### The scores -/

/-- Products of tokens with centres, head by head in one matrix product: the centres' columns six times over, zero outside
    the token's head. -/
def cosines (U : FVec Ideal S1024x384 .f32) (C : FVec Ideal S384x384 .f32) : FVec Ideal S1024x384 .f32 :=
  matmul dot_S1024x384_S384x384_S1024x384_1_0_0_1_n_n none (truncf .bf16 U bitsLt_bf16_f32)
    (truncf .bf16 (select sameHead C (broadcast S384x384 (Scalar.ofBits (F := Ideal) .f32 0x00000000#32))) bitsLt_bf16_f32)
    (constant S1024x384 .f32 0x00000000#32)

/-- `cosines` at head `h`'s column `a`: the product over that head's columns alone. -/
theorem cosines_apply (U : FVec Ideal S1024x384 .f32) (C : FVec Ideal S384x384 .f32) (t : Fin 1024) (h : Fin 6) (a : Fin 64) :
    cosines U C (ix2 t (at6 h a)) = ∑ d : Fin 64, U (ix2 t (at6 h d)) * C (ix2 (at6 h d) (at6 h a)) := by
  have e : cosines U C (ix2 t (at6 h a))
      = ∑ k : Fin 384, U (ix2 t k) * (if k.val / 64 = (at6 h a).val / 64 then C (ix2 k (at6 h a)) else 0) := by
    pointwise [cosines]
    exact Finset.sum_congr rfl fun k _ => by rw [select_sameHead, mul_ite, mul_zero]
  rw [e, sum_head (fun k => U (ix2 t k)) _ h fun k hk => if_neg (by rw [at6_div]; exact hk)]
  exact Finset.sum_congr rfl fun d _ => by rw [if_pos (by rw [at6_div, at6_div])]

/-- The logistic function of the affine function of `v` given by two `1 × 1` blocks, at an index. -/
theorem scores_apply (v : FVec Ideal S1024x384 .f32) (al be : FVec Ideal S1x1 .f32) (t : Fin 1024) (c : Fin 384) :
    k0_pay25 v al be (ix2 t c) = Ideal.logistic (al (ix2 0 0) * v (ix2 t c) + be (ix2 0 0)) := by
  pointwise [k0_pay25]

/-! ### The messages and the closing map -/

/-- From the kept scores `S` (all heads side by side), the tokens' values `V` and the centres' `R` (six times over): the
    values gathered at the centres, shared out, and mapped by the closing weights. -/
def closing (S : FVec Ideal S1024x384 .f32) (V : FVec Ideal S1024x384 .f32) (R : FVec Ideal S384x384 .f32)
    (OW : FVec Ideal S384x384 .f32) (OB : FVec Ideal S1x384 .f32) : FVec Ideal S1x1024x384 .f32 :=
  shapeCast S1x1024x384
    (addf
      (matmul dot_S1024x384_S384x384_S1024x384_1_1_0_0_n_n none
        (truncf .bf16
          (matmul dot_S1024x384_S384x384_S1024x384_1_0_0_1_n_n none
            (truncf .bf16
              (divf S (broadcastTo S1024x384
                (addf (shapeCast S1x384 (multiReduction .add [0] S384 S 0x00000000#32 reduces_S1024x384_S384 (.inl rfl) rfl)
                    shapeCasts_S384_S1x384)
                  (broadcast S1x384 (Scalar.ofBits .f32 0x3F800000#32))) broadcasts_S1x384_S1024x384)) bitsLt_bf16_f32)
            (truncf .bf16
              (select sameHead
                (addf (matmul dot_S1024x384_S1024x384_S384x384_0_0_1_1_n_n none (truncf .bf16 S bitsLt_bf16_f32)
                  (truncf .bf16 V bitsLt_bf16_f32) (constant S384x384 .f32 0x00000000#32)) R)
                (broadcast S384x384 (Scalar.ofBits .f32 0x00000000#32))) bitsLt_bf16_f32)
            (constant S1024x384 .f32 0x00000000#32)) bitsLt_bf16_f32)
        (truncf .bf16 OW bitsLt_bf16_f32) (constant S1024x384 .f32 0x00000000#32))
      (broadcastTo S1024x384 (shapeCast S1x384 OB shapeCasts_S1x384_S1x384) broadcasts_S1x384_S1024x384))
    shapeCasts_S1024x384_S1x1024x384

/-- The body's last value is `closing` of the six heads' kept scores side by side and the centres' values six times over. -/
theorem pay1_eq (V : FVec Ideal S1024x384 .f32) (R : FVec Ideal S64x384 .f32) (f : Fin 6 → FVec Ideal S1024x64 .f32)
    (OW : FVec Ideal S384x384 .f32) (OB : FVec Ideal S1x384 .f32) :
    k0_pay1 V R sameHead (f 0) (f 1) (f 2) (f 3) (f 4) (f 5) OW OB
      = closing (concatenate S1024x384 1 [⟨S1024x64, f 0⟩, ⟨S1024x64, f 1⟩, ⟨S1024x64, f 2⟩, ⟨S1024x64, f 3⟩, ⟨S1024x64, f 4⟩,
            ⟨S1024x64, f 5⟩] concatenates_S1024x64_S1024x64_S1024x64_S1024x64_S1024x64_S1024x64_S1024x384_d1) V
          (concatenate S384x384 0 [⟨S64x384, R⟩, ⟨S64x384, R⟩, ⟨S64x384, R⟩, ⟨S64x384, R⟩, ⟨S64x384, R⟩, ⟨S64x384, R⟩]
            concatenates_S64x384_S64x384_S64x384_S64x384_S64x384_S64x384_S384x384_d0) OW OB := rfl

/-- What a token's row holds before the closing map, at column `d` of head `h`. -/
theorem shared_apply (S V : FVec Ideal S1024x384 .f32) (R : FVec Ideal S384x384 .f32) (t : Fin 1024) (h : Fin 6) (d : Fin 64)
    (hS : ∀ t (a : Fin 64), 0 ≤ S (ix2 t (at6 h a))) :
    (∑ k : Fin 384, Ideal.div (S (ix2 t k)) ((∑ u : Fin 1024, S (ix2 u k)) + 1)
        * (if k.val / 64 = (at6 h d).val / 64 then (∑ u : Fin 1024, S (ix2 u k) * V (ix2 u (at6 h d))) + R (ix2 k (at6 h d)) else 0))
      = mix (fun t a => S (ix2 t (at6 h a))) (fun t d => V (ix2 t (at6 h d))) (fun a d => R (ix2 (at6 h a) (at6 h d))) t d := by
  rw [sum_head _ _ h fun k hk => if_neg (by rw [at6_div]; exact hk), mix_eq hS]
  exact Finset.sum_congr rfl fun a _ => by rw [if_pos (by rw [at6_div, at6_div])]; rfl

/-- `closing` at an index. -/
theorem closing_apply (S V : FVec Ideal S1024x384 .f32) (R OW : FVec Ideal S384x384 .f32) (OB : FVec Ideal S1x384 .f32)
    (hS : ∀ h t (a : Fin 64), 0 ≤ S (ix2 t (at6 h a))) (t : Fin 1024) (o : Fin 384) :
    closing S V R OW OB (ix3 0 t o)
      = (∑ c : Fin 384, mix (fun t a => S (ix2 t (at6 ⟨c.val / 64, by omega⟩ a))) (fun t d => V (ix2 t (at6 ⟨c.val / 64, by omega⟩ d)))
          (fun a d => R (ix2 (at6 ⟨c.val / 64, by omega⟩ a) (at6 ⟨c.val / 64, by omega⟩ d))) t ⟨c.val % 64, by omega⟩
          * OW (ix2 o c)) + OB (ix2 0 o) := by
  pointwise [closing]
  congr 1
  refine Finset.sum_congr rfl fun c _ => ?_
  congr 1
  rw [← shared_apply S V R t ⟨c.val / 64, by omega⟩ ⟨c.val % 64, by omega⟩ (hS _), at6_div_mod]
  refine Finset.sum_congr rfl fun k _ => ?_
  rw [select_sameHead, mul_ite, mul_zero]

/-! ### The body's values -/

section Body

variable (x0 : FVec Ideal S1x1024x384 .f32) (x1 : FVec Ideal S768x384 .f32) (x2 : FVec Ideal S1x768 .f32)
  (x3 : FVec Ideal S384x384 .f32) (x4 : FVec Ideal S1x384 .f32) (x5 x6 : FVec Ideal S1x1 .f32)

/-- The projected channels of a token, in the order of the block of weights. -/
def proj (t : Fin 1024) (c : Fin 768) : EReal := (∑ k : Fin 384, x0 (ix3 0 t k) * x1 (ix2 c k)) + x2 (ix2 0 c)

/-- The channels of head `h`'s points. -/
def ptAt (h : Fin 6) (d : Fin 64) : Fin 768 := ⟨h.val * 64 + d.val, by omega⟩

/-- The channels of head `h`'s values. -/
def valAt (h : Fin 6) (d : Fin 64) : Fin 768 := ⟨384 + (h.val * 64 + d.val), by omega⟩

/-- The projection at an index. -/
theorem pay2_apply (t : Fin 1024) (c : Fin 768) : k0_pay2 (F := Ideal) x0 x1 x2 (ix2 t c) = proj x0 x1 x2 t c := by
  unfold proj
  pointwise [k0_pay2]

/-- The blocks' maxima at an index. -/
theorem pay3_apply (a : Fin 64) (c : Fin 768) :
    k0_pay3 (F := Ideal) x0 x1 x2 (ix2 a c) = pool (fun t => proj x0 x1 x2 t c) a := by
  pointwise [k0_pay3]
  simp only [ofBits_least, fold_max_eq, pay2_apply]
  unfold Cluster.pool
  refine iSup_congr fun i => iSup_congr fun j => congrArg (fun t => proj x0 x1 x2 t c) (Fin.ext ?_)
  show (a.val / 8 * 32 + i.val * 8 + a.val % 8) * 4 + j.val = 32 * (4 * (a.val / 8) + i.val) + (4 * (a.val % 8) + j.val)
  omega

/-- The tokens' points. -/
theorem pay4_apply (t : Fin 1024) (h : Fin 6) (d : Fin 64) :
    k0_pay4 (F := Ideal) x0 x1 x2 (ix2 t (at6 h d)) = proj x0 x1 x2 t (ptAt h d) := by
  rw [← pay2_apply]
  pointwise [k0_pay4]
  exact congrArg (fun c => k0_pay2 (F := Ideal) x0 x1 x2 (ix2 t c)) (Fin.ext rfl)

/-- The tokens' values. -/
theorem pay5_apply (t : Fin 1024) (h : Fin 6) (d : Fin 64) :
    k0_pay5 (F := Ideal) x0 x1 x2 (ix2 t (at6 h d)) = proj x0 x1 x2 t (valAt h d) := by
  rw [← pay2_apply]
  pointwise [k0_pay5]
  exact congrArg (fun c => k0_pay2 (F := Ideal) x0 x1 x2 (ix2 t c)) (Fin.ext rfl)

/-- The centres' points. -/
theorem pay6_apply (a : Fin 64) (h : Fin 6) (d : Fin 64) :
    k0_pay6 (F := Ideal) x0 x1 x2 (ix2 a (at6 h d)) = pool (fun t => proj x0 x1 x2 t (ptAt h d)) a := by
  rw [← pay3_apply]
  pointwise [k0_pay6]
  exact congrArg (fun c => k0_pay3 (F := Ideal) x0 x1 x2 (ix2 a c)) (Fin.ext rfl)

/-- The centres' values. -/
theorem pay7_apply (a : Fin 64) (h : Fin 6) (d : Fin 64) :
    k0_pay7 (F := Ideal) x0 x1 x2 (ix2 a (at6 h d)) = pool (fun t => proj x0 x1 x2 t (valAt h d)) a := by
  rw [← pay3_apply]
  pointwise [k0_pay7]
  exact congrArg (fun c => k0_pay3 (F := Ideal) x0 x1 x2 (ix2 a c)) (Fin.ext rfl)

/-- The tokens' points, each head's divided by its norm. -/
def unitToks : FVec Ideal S1024x384 .f32 :=
  concatenate S1024x384 1 [⟨S1024x64, unitTok (k0_pay4 x0 x1 x2) 0⟩, ⟨S1024x64, unitTok (k0_pay4 x0 x1 x2) 1⟩,
    ⟨S1024x64, unitTok (k0_pay4 x0 x1 x2) 2⟩, ⟨S1024x64, unitTok (k0_pay4 x0 x1 x2) 3⟩,
    ⟨S1024x64, unitTok (k0_pay4 x0 x1 x2) 4⟩, ⟨S1024x64, unitTok (k0_pay4 x0 x1 x2) 5⟩]
    concatenates_S1024x64_S1024x64_S1024x64_S1024x64_S1024x64_S1024x64_S1024x384_d1

/-- The centres' points, each head's divided by its norm. -/
def unitCtrs : FVec Ideal S64x384 .f32 :=
  concatenate S64x384 1 [⟨S64x64, unitCtr (k0_pay6 x0 x1 x2) 0⟩, ⟨S64x64, unitCtr (k0_pay6 x0 x1 x2) 1⟩,
    ⟨S64x64, unitCtr (k0_pay6 x0 x1 x2) 2⟩, ⟨S64x64, unitCtr (k0_pay6 x0 x1 x2) 3⟩,
    ⟨S64x64, unitCtr (k0_pay6 x0 x1 x2) 4⟩, ⟨S64x64, unitCtr (k0_pay6 x0 x1 x2) 5⟩]
    concatenates_S64x64_S64x64_S64x64_S64x64_S64x64_S64x64_S64x384_d1

/-- The centres' unit points transposed, six times over. -/
def ctrCols : FVec Ideal S384x384 .f32 :=
  concatenate S384x384 1
    [⟨S384x64, transpose S384x64 [1, 0] (unitCtrs x0 x1 x2) transposes_S64x384_p1_0_S384x64⟩,
      ⟨S384x64, transpose S384x64 [1, 0] (unitCtrs x0 x1 x2) transposes_S64x384_p1_0_S384x64⟩,
      ⟨S384x64, transpose S384x64 [1, 0] (unitCtrs x0 x1 x2) transposes_S64x384_p1_0_S384x64⟩,
      ⟨S384x64, transpose S384x64 [1, 0] (unitCtrs x0 x1 x2) transposes_S64x384_p1_0_S384x64⟩,
      ⟨S384x64, transpose S384x64 [1, 0] (unitCtrs x0 x1 x2) transposes_S64x384_p1_0_S384x64⟩,
      ⟨S384x64, transpose S384x64 [1, 0] (unitCtrs x0 x1 x2) transposes_S64x384_p1_0_S384x64⟩]
    concatenates_S384x64_S384x64_S384x64_S384x64_S384x64_S384x64_S384x384_d1

/-- `unitToks` at an index. -/
theorem unitToks_apply (t : Fin 1024) (h : Fin 6) (d : Fin 64) :
    unitToks x0 x1 x2 (ix2 t (at6 h d)) = unit (fun e => proj x0 x1 x2 t (ptAt h e)) d := by
  unfold unitToks
  rw [beside_apply (unitTok (k0_pay4 x0 x1 x2)), unitTok_apply]
  simp only [pay4_apply]

/-- `unitCtrs` at an index. -/
theorem unitCtrs_apply (a : Fin 64) (h : Fin 6) (d : Fin 64) :
    unitCtrs x0 x1 x2 (ix2 a (at6 h d)) = unit (fun e => pool (fun t => proj x0 x1 x2 t (ptAt h e)) a) d := by
  unfold unitCtrs
  rw [beside_apply (unitCtr (k0_pay6 x0 x1 x2)), unitCtr_apply]
  simp only [pay6_apply]

/-- `ctrCols` at an index. -/
theorem ctrCols_apply (k : Fin 384) (h : Fin 6) (a : Fin 64) : ctrCols x0 x1 x2 (ix2 k (at6 h a)) = unitCtrs x0 x1 x2 (ix2 a k) := by
  unfold ctrCols
  rw [beside_apply (fun _ => transpose S384x64 [1, 0] (unitCtrs x0 x1 x2) transposes_S64x384_p1_0_S384x64)]
  pointwise

/-- All scores: token `t`, column `a` of head `h`. -/
def scores : FVec Ideal S1024x384 .f32 := k0_pay25 (cosines (unitToks x0 x1 x2) (ctrCols x0 x1 x2)) x5 x6

/-- `scores` at an index. -/
theorem scores_eq (t : Fin 1024) (h : Fin 6) (a : Fin 64) :
    scores x0 x1 x2 x5 x6 (ix2 t (at6 h a)) = score (x5 (ix2 0 0)) (x6 (ix2 0 0)) (fun d => proj x0 x1 x2 t (ptAt h d))
      (fun d => pool (fun t => proj x0 x1 x2 t (ptAt h d)) a) := by
  unfold scores score
  rw [scores_apply, cosines_apply]
  simp only [unitToks_apply, ctrCols_apply, unitCtrs_apply]

/-- The kept scores, all heads side by side. -/
def kept : FVec Ideal S1024x384 .f32 :=
  concatenate S1024x384 1 [⟨S1024x64, keepRows (scores x0 x1 x2 x5 x6) 0⟩, ⟨S1024x64, keepRows (scores x0 x1 x2 x5 x6) 1⟩,
    ⟨S1024x64, keepRows (scores x0 x1 x2 x5 x6) 2⟩, ⟨S1024x64, keepRows (scores x0 x1 x2 x5 x6) 3⟩,
    ⟨S1024x64, keepRows (scores x0 x1 x2 x5 x6) 4⟩, ⟨S1024x64, keepRows (scores x0 x1 x2 x5 x6) 5⟩]
    concatenates_S1024x64_S1024x64_S1024x64_S1024x64_S1024x64_S1024x64_S1024x384_d1

/-- `kept` at an index. -/
theorem kept_apply (t : Fin 1024) (h : Fin 6) (a : Fin 64) :
    kept x0 x1 x2 x5 x6 (ix2 t (at6 h a)) = weight (x5 (ix2 0 0)) (x6 (ix2 0 0)) (fun t d => proj x0 x1 x2 t (ptAt h d))
      (fun a d => pool (fun t => proj x0 x1 x2 t (ptAt h d)) a) t a := by
  unfold kept weight
  rw [beside_apply (keepRows (scores x0 x1 x2 x5 x6)), keepRows_apply]
  simp only [scores_eq]

/-- The value the body stores. -/
def stored : FVec Ideal S1x1024x384 .f32 :=
  closing (kept x0 x1 x2 x5 x6) (k0_pay5 x0 x1 x2)
    (concatenate S384x384 0 [⟨S64x384, k0_pay7 x0 x1 x2⟩, ⟨S64x384, k0_pay7 x0 x1 x2⟩, ⟨S64x384, k0_pay7 x0 x1 x2⟩,
      ⟨S64x384, k0_pay7 x0 x1 x2⟩, ⟨S64x384, k0_pay7 x0 x1 x2⟩, ⟨S64x384, k0_pay7 x0 x1 x2⟩]
      concatenates_S64x384_S64x384_S64x384_S64x384_S64x384_S64x384_S384x384_d0) x3 x4

/-- What head `h` gives token `t`, from the channels in the order of the block of weights. -/
def headOf (h : Fin 6) (t : Fin 1024) (d : Fin 64) : EReal :=
  mix (weight (x5 (ix2 0 0)) (x6 (ix2 0 0)) (fun t d => proj x0 x1 x2 t (ptAt h d))
      (fun a d => pool (fun t => proj x0 x1 x2 t (ptAt h d)) a))
    (fun t d => proj x0 x1 x2 t (valAt h d)) (fun a d => pool (fun t => proj x0 x1 x2 t (valAt h d)) a) t d

/-- `stored` at an index. -/
theorem stored_apply (t : Fin 1024) (o : Fin 384) :
    stored x0 x1 x2 x3 x4 x5 x6 (ix3 0 t o)
      = (∑ c : Fin 384, headOf x0 x1 x2 x5 x6 ⟨c.val / 64, by omega⟩ t ⟨c.val % 64, by omega⟩ * x3 (ix2 o c)) + x4 (ix2 0 o) := by
  unfold stored headOf
  rw [closing_apply _ _ _ _ _ fun h t a => by rw [kept_apply]; exact weight_nonneg _ _ _ _ _ _]
  simp only [kept_apply, pay5_apply, below_apply, pay7_apply]

/-- The body's last value, as the body names its parts, is `stored`. -/
theorem body_eq :
    k0_pay1 (k0_pay5 x0 x1 x2) (k0_pay7 x0 x1 x2) sameHead
        (k0_pay26 (cosines (unitToks x0 x1 x2) (ctrCols x0 x1 x2)) x5 x6)
        (k0_pay27 (cosines (unitToks x0 x1 x2) (ctrCols x0 x1 x2)) x5 x6)
        (k0_pay30 (k0_pay28 (cosines (unitToks x0 x1 x2) (ctrCols x0 x1 x2)) x5 x6) (iota .tc S1024x64 32 [1] iota_S1024x64_d1_w32)
          (k0_pay29 (cosines (unitToks x0 x1 x2) (ctrCols x0 x1 x2)) x5 x6))
        (k0_pay31 (scores x0 x1 x2 x5 x6)) (k0_pay32 (scores x0 x1 x2 x5 x6)) (k0_pay33 (scores x0 x1 x2 x5 x6)) x3 x4
      = stored x0 x1 x2 x3 x4 x5 x6 :=
  pay1_eq (k0_pay5 x0 x1 x2) (k0_pay7 x0 x1 x2) (keepRows (scores x0 x1 x2 x5 x6)) x3 x4

/-- The products of tokens with centres, as the body names their parts. -/
theorem cosines_eq :
    k0_pay24 (k0_pay19 (k0_pay4 x0 x1 x2) (k0_pay8 x0 x1 x2)
        (k0_pay12 (k0_pay10 x0 x1 x2) (k0_pay11 x0 x1 x2) (Scalar.ofBits (F := Ideal) .f32 0x2B8CBCCC#32))
        (k0_pay14 (k0_pay4 x0 x1 x2)) (k0_pay16 (k0_pay4 x0 x1 x2)) (k0_pay18 (k0_pay4 x0 x1 x2)))
      (k0_pay20 (k0_pay6 x0 x1 x2) (k0_pay9 x0 x1 x2) (k0_pay13 (k0_pay6 x0 x1 x2)) (k0_pay15 (k0_pay6 x0 x1 x2))
        (k0_pay17 (k0_pay6 x0 x1 x2)))
      (iota .tc S384x384 32 [0] iota_S384x384_d0_w32) 64#32 k0_pay21 k0_pay22 (Scalar.cmpi .sgt 64#32 0#32)
      = cosines (unitToks x0 x1 x2) (ctrCols x0 x1 x2) := rfl

end Body

end Cert.KernelIdeal.Block

end
-- ==== Proof.Gather.lean ====
/-
  The reordering of the projection's channels before the kernel: the table of channels, and the gathers of rows and of
  entries by it.
-/
module

public import proofs.«01_k».proof.Proof.Gen.KernelIdeal
public import proofs.«01_k».proof.Proof.Spec
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem Cert.Cluster

/-- The projected channel at position `p` of the reordered ones: all heads' points first, all heads' values after. -/
def chan (p : Fin 768) : Fin 768 :=
  if h : p.val < 384 then ⟨128 * (p.val / 64) + p.val % 64, by omega⟩
  else ⟨128 * ((p.val - 384) / 64) + (64 + (p.val - 384) % 64), by omega⟩

/-- The table of channels. -/
theorem table : ∀ p : Fin 768, lit0 p = BitVec.ofNat 32 (chan p).val := by decide +kernel

/-- A channel's word read as a signed number. -/
theorem chan_word : ∀ b : Fin 768, (BitVec.ofNat 32 b.val).toInt.toNat = b.val := by decide +kernel

/-- The gather of rows, at an index whose row's start is the word of `b`. -/
theorem rows_apply (x : FVec Ideal S768x384 .f32) (idx : IVec S768x1 32) (p : Fin 768) (k : Fin 384) (b : Fin 768)
    (hb : idx (ix2 p 0) = BitVec.ofNat 32 b.val) :
    Host.gather gather_S768x384_S768x1_S768x384_1_0_n_n_0_1_1384 x idx (ix2 p k) = x (ix2 b k) := by
  unfold Host.gather
  refine congrArg x (funext fun a => Fin.ext ?_)
  show GatherDims.start _ (ix2 p k) idx a + GatherDims.batchCoord _ (ix2 p k) a + GatherDims.offCoord _ (ix2 p k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S768x384.rank) ∈ gather_S768x384_S768x1_S768x384_1_0_n_n_0_1_1384.startIndexMap from
      List.mem_singleton.mpr rfl)]
    have hsi : GatherDims.siIdx gather_S768x384_S768x1_S768x384_1_0_n_n_0_1_1384 (ix2 p k)
        ⟨List.idxOf (0 : Fin 2) gather_S768x384_S768x1_S768x384_1_0_n_n_0_1_1384.startIndexMap,
          List.idxOf_lt_length_iff.2 (List.mem_singleton.mpr rfl)⟩ = ix2 p 0 := by
      funext e; refine Fin.ext ?_
      match e with
      | ⟨0, _⟩ => rfl
      | ⟨1, _⟩ => rfl
    rw [hsi, hb, chan_word]
    show min b.val 767 = b.val
    have := b.isLt
    omega
  · rw [GatherDims.batchCoord_eq_zero _ _ _ List.not_mem_nil]
    have hs : GatherDims.start gather_S768x384_S768x1_S768x384_1_0_n_n_0_1_1384 (ix2 p k) idx 1 = 0 := by
      unfold GatherDims.start
      exact dif_neg (fun h => absurd (List.mem_singleton.1 h) (by decide))
    rw [hs]
    simp only [Nat.zero_add]
    unfold GatherDims.offCoord
    rw [dif_pos ((GatherDims.mem_sKept _ _).2 ⟨fun h => absurd (List.mem_singleton.1 h) (by decide), List.not_mem_nil⟩)]
    rfl

/-- The gather of entries, at an index whose start is the word of `b`. -/
theorem entries_apply (x : FVec Ideal S768 .f32) (idx : IVec S768x1 32) (p : Fin 768) (b : Fin 768)
    (hb : idx (ix2 p 0) = BitVec.ofNat 32 b.val) :
    Host.gather gather_S768_S768x1_S768_n_0_n_n_0_1_1 x idx (ix1 p) = x (ix1 b) := by
  unfold Host.gather
  refine congrArg x (funext fun a => Fin.ext ?_)
  show GatherDims.start _ (ix1 p) idx a + GatherDims.batchCoord _ (ix1 p) a + GatherDims.offCoord _ (ix1 p) a = _
  obtain rfl : a = 0 := Subsingleton.elim _ _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S768.rank) ∈ gather_S768_S768x1_S768_n_0_n_n_0_1_1.startIndexMap from List.mem_singleton.mpr rfl)]
  have hsi : GatherDims.siIdx gather_S768_S768x1_S768_n_0_n_n_0_1_1 (ix1 p)
      ⟨List.idxOf (0 : Fin 1) gather_S768_S768x1_S768_n_0_n_n_0_1_1.startIndexMap,
        List.idxOf_lt_length_iff.2 (List.mem_singleton.mpr rfl)⟩ = ix2 p 0 := by
    funext e; refine Fin.ext ?_
    match e with
    | ⟨0, _⟩ => rfl
    | ⟨1, _⟩ => rfl
  rw [hsi, hb, chan_word]
  show min b.val 767 = b.val
  have := b.isLt
  omega

/-- The start indices the host computes: the table itself, no entry being wrapped. -/
def starts : IVec S768x1 32 :=
  broadcastInDim S768x1 ![0] bcast_S768_S768x1_0
    (select (constantI S768 1 0#1)
      (addi (fun i => lit0 (S768.rowMajor i)) (broadcastInDim S768 ![] bcast_S_S768 (constantI S_ 32 768#32)))
      (fun i => lit0 (S768.rowMajor i)))

/-- Row `p`'s start is the channel of `p`. -/
theorem starts_apply (p : Fin 768) : starts (ix2 p 0) = BitVec.ofNat 32 (chan p).val := by
  rw [← table p]
  pointwise [starts]
  exact congrArg lit0 (Fin.ext (rowMajor_val1 (ix1 p)))

end Cert.KernelIdeal.Block

end
-- ==== Proof.KernelArr.lean ====
/-
  The kernel's result array after the run, at every index.
-/
module

public import proofs.«01_k».proof.Proof.Block
public import proofs.«01_k».proof.Proof.Gather
public import Idealize.ShloMosaic.Lib.Pipeline.ValueKit
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem Cert.Cluster

variable (m : (ℓ : Loc nD τ sig) → Buf (Elt Ideal) ℓ) (c : Dev nD)

/-- Which block each window stands at: the image's for the tokens and the result, the only one for the rest. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ t.val < 4 :=
  (by decide +kernel : ∀ t : Fin grid0.N, _)

/-- Image `n` of the tokens. -/
def img (X : FVec Ideal S4x1024x384 .f32) (n : Fin 4) : FVec Ideal S1x1024x384 .f32 := fun y => X (ix3 n ⟨(y 1).val, (y 1).isLt⟩ ⟨(y 2).val, (y 2).isLt⟩)

/-- The result array's contents: image by image what the body stores. -/
def after : FVec Ideal S4x1024x384 .f32 := fun i =>
  stored (img (V m c main_v11) ⟨(i 0).val, (i 0).isLt⟩) (V m c main_v4) (V m c main_v10) (V m c main_arg3) (V m c main_v12) (V m c main_v13)
    (V m c main_v14) (ix3 0 ⟨(i 1).val, (i 1).isLt⟩ ⟨(i 2).val, (i 2).isLt⟩)

/-- What the body leaves in its result block. -/
theorem out_eq (x0 : Vec Ideal S1x1024x384 .f32) (x1 : Vec Ideal S768x384 .f32) (x2 : Vec Ideal S1x768 .f32) (x3 : Vec Ideal S384x384 .f32)
    (x4 : Vec Ideal S1x384 .f32) (x5 : Vec Ideal S1x1 .f32) (x6 : Vec Ideal S1x1 .f32) :
    out0_7 x0 x1 x2 x3 x4 x5 x6 = stored x0 x1 x2 x3 x4 x5 x6 := by
  funext y
  unfold_out out0_7
  frame_out
  exact congrFun (body_eq x0 x1 x2 x3 x4 x5 x6) y

/-- The tokens' window at point `t` shows image `t`. -/
theorem read_0 (t : Fin cfg0.N) (A : FVec Ideal S4x1024x384 .f32) :
    View.read (Elt Ideal) ((cfg0.win 0).blk t).view A = img A ⟨t.val, (idx t).2.2.2.2.2.2.2.2⟩ := by
  funext y
  show A _ = A _
  blk_ext [idx t]

/-- The matrix' window shows the whole matrix. -/
theorem read_1 (t : Fin cfg0.N) (A : FVec Ideal S768x384 .f32) : View.read (Elt Ideal) ((cfg0.win 1).blk t).view A = A := by blk_ext! [idx t]

/-- The bias' window shows the whole bias. -/
theorem read_2 (t : Fin cfg0.N) (A : FVec Ideal S1x768 .f32) : View.read (Elt Ideal) ((cfg0.win 2).blk t).view A = A := by blk_ext! [idx t]

/-- The output matrix' window shows the whole matrix. -/
theorem read_3 (t : Fin cfg0.N) (A : FVec Ideal S384x384 .f32) : View.read (Elt Ideal) ((cfg0.win 3).blk t).view A = A := by blk_ext! [idx t]

/-- The output bias' window shows the whole bias. -/
theorem read_4 (t : Fin cfg0.N) (A : FVec Ideal S1x384 .f32) : View.read (Elt Ideal) ((cfg0.win 4).blk t).view A = A := by blk_ext! [idx t]

/-- The scale's window shows the scale. -/
theorem read_5 (t : Fin cfg0.N) (A : FVec Ideal S1x1 .f32) : View.read (Elt Ideal) ((cfg0.win 5).blk t).view A = A := by blk_ext! [idx t]

/-- The shift's window shows the shift. -/
theorem read_6 (t : Fin cfg0.N) (A : FVec Ideal S1x1 .f32) : View.read (Elt Ideal) ((cfg0.win 6).blk t).view A = A := by blk_ext! [idx t]

/-- What the run leaves in the result's block at point `t`. -/
theorem block_eq (t : Fin cfg0.N) : (dats m 0 c).after 7 t = stored (img (V m c main_v11) ⟨t.val, (idx t).2.2.2.2.2.2.2.2⟩) (V m c main_v4)
    (V m c main_v10) (V m c main_arg3) (V m c main_v12) (V m c main_v13) (V m c main_v14) := by
  rw [after0_7, out_eq]
  exact congr (congr (congr (congr (congr (congr (congrArg stored (read_0 t _)) (read_1 t _)) (read_2 t _)) (read_3 t _)) (read_4 t _)) (read_5 t _)) (read_6 t _)

/-- The result array after the run. -/
theorem final : (dats m 0 c).arrAt 7 (cfgs 0).N = after m c := by
  refine (dats m 0 c).arrAt_eq_of_covers 7 _ (by decide +kernel) fun t _ y => ?_
  blk_simp
  rw [block_eq]
  unfold after
  generalize V m c main_v11 = A0
  generalize V m c main_v4 = A1
  generalize V m c main_v10 = A2
  generalize V m c main_arg3 = A3
  generalize V m c main_v12 = A4
  generalize V m c main_v13 = A5
  generalize V m c main_v14 = A6
  refine congr (congrArg (fun n => stored (img A0 n) A1 A2 A3 A4 A5 A6) (Fin.ext ?_)) ?_
  · blk_simp [idx t]
  · blk_ext [idx t]

end Cert.KernelIdeal.Block

end
-- ==== Proof.KernelValue.lean ====
/-
  The kernel's run: what its result holds at every index, in the arguments' launch contents.
-/
module

public import proofs.«01_k».proof.Proof.KernelArr

@[expose] public section

set_option maxRecDepth 16384

noncomputable section

namespace Cert.KernelIdeal.Block

open Cert.KernelIdeal Cert.KernelIdeal.Gen Idealize.ShloMosaic Idealize.ShloMosaic.TcCoe Idealize.SL.Sem Cert.Cluster

variable (m : (ℓ : Loc nD τ sig) → Buf (Elt Ideal) ℓ) (c : Dev nD)

/-- The matrix the region finds: the rows of the argument in the order of the channel table. -/
theorem V_v4 : V m c main_v4 = Host.gather gather_S768x384_S768x1_S768x384_1_0_n_n_0_1_1384 (m ((c : Thread nD τ).loc main_arg1)) starts := by
  entry_read
  rfl

/-- The bias the region finds, reordered the same way and laid out as a row. -/
theorem V_v10 : V m c main_v10 = shapeCast S1x768 (Host.gather gather_S768_S768x1_S768_n_0_n_n_0_1_1 (m ((c : Thread nD τ).loc main_arg2)) starts) shapeCasts_S768_S1x768 := by
  entry_read
  rfl

/-- The tokens the region finds: each image's pixels in one row-major list. -/
theorem V_v11 : V m c main_v11 = shapeCast S4x1024x384 (m ((c : Thread nD τ).loc main_arg0)) shapeCasts_S4x32x32x384_S4x1024x384 := by
  entry_read
  rfl

/-- The output bias the region finds, laid out as a row. -/
theorem V_v12 : V m c main_v12 = shapeCast S1x384 (m ((c : Thread nD τ).loc main_arg4)) shapeCasts_S384_S1x384 := by
  entry_read
  rfl

/-- The scale the region finds. -/
theorem V_v13 : V m c main_v13 = shapeCast S1x1 (m ((c : Thread nD τ).loc main_arg5)) shapeCasts_S1_S1x1 := by
  entry_read
  rfl

/-- The shift the region finds. -/
theorem V_v14 : V m c main_v14 = shapeCast S1x1 (m ((c : Thread nD τ).loc main_arg6)) shapeCasts_S1_S1x1 := by
  entry_read
  rfl

section Pure

variable (X : FVec Ideal S4x32x32x384 .f32) (W : FVec Ideal S768x384 .f32) (B : FVec Ideal S768 .f32) (n : Fin 4)

/-- A projected token, from the layout the region finds its operands in. -/
theorem proj_channels (t : Fin 1024) (p : Fin 768) :
    proj (img (shapeCast S4x1024x384 X shapeCasts_S4x32x32x384_S4x1024x384) n)
        (Host.gather gather_S768x384_S768x1_S768x384_1_0_n_n_0_1_1384 W starts)
        (shapeCast S1x768 (Host.gather gather_S768_S768x1_S768_n_0_n_n_0_1_1 B starts) shapeCasts_S768_S1x768) t p
      = channels X W B n t (chan p) := by
  unfold proj channels img
  pointwise
  simp only [rows_apply W starts p _ (chan p) (starts_apply p), entries_apply B starts p (chan p) (starts_apply p)]

end Pure

/-- Channel `128 h + d` is where the table puts point channel `d` of head `h`. -/
theorem chan_ptAt (h : Fin 6) (d : Fin 64) : chan (ptAt h d) = ⟨128 * h.val + d.val, by omega⟩ := by
  unfold chan ptAt
  refine Fin.ext ?_
  have : h.val * 64 + d.val < 384 := by omega
  simp only [this]
  simp
  omega

/-- Channel `128 h + 64 + d` is where the table puts value channel `d` of head `h`. -/
theorem chan_valAt (h : Fin 6) (d : Fin 64) : chan (valAt h d) = ⟨128 * h.val + (64 + d.val), by omega⟩ := by
  unfold chan valAt
  refine Fin.ext ?_
  simp
  omega

/-- The result array at an index: the layer, of the arguments' launch contents. -/
theorem after_apply (n : Fin 4) (t : Fin 1024) (o : Fin 384) :
    after m c (ix3 n t o)
      = layer (m ((c : Thread nD τ).loc main_arg5) (ix1 0)) (m ((c : Thread nD τ).loc main_arg6) (ix1 0))
          (channels (m ((c : Thread nD τ).loc main_arg0)) (m ((c : Thread nD τ).loc main_arg1)) (m ((c : Thread nD τ).loc main_arg2)) n)
          (fun o c' => m ((c : Thread nD τ).loc main_arg3) (ix2 o c')) (fun o => m ((c : Thread nD τ).loc main_arg4) (ix1 o)) t o := by
  unfold after
  rw [V_v4, V_v10, V_v11, V_v12, V_v13, V_v14, V_main_arg3]
  refine (stored_apply _ _ _ _ _ _ _ t o).trans ?_
  unfold layer headOf head
  have e5 : shapeCast S1x1 (m ((c : Thread nD τ).loc main_arg5)) shapeCasts_S1_S1x1 (ix2 0 0) = m ((c : Thread nD τ).loc main_arg5) (ix1 0) := by
    pointwise
  have e6 : shapeCast S1x1 (m ((c : Thread nD τ).loc main_arg6)) shapeCasts_S1_S1x1 (ix2 0 0) = m ((c : Thread nD τ).loc main_arg6) (ix1 0) := by
    pointwise
  have e4 : shapeCast S1x384 (m ((c : Thread nD τ).loc main_arg4)) shapeCasts_S384_S1x384 (ix2 0 o) = m ((c : Thread nD τ).loc main_arg4) (ix1 o) := by
    pointwise
  rw [e5, e6, e4]
  have key := proj_channels (m ((c : Thread nD τ).loc main_arg0)) (m ((c : Thread nD τ).loc main_arg1)) (m ((c : Thread nD τ).loc main_arg2)) n
  simp only [ix3_0]
  simp only [key, chan_ptAt, chan_valAt]

/-- The returned array: the result array laid out as images. -/
def result : FVec Ideal S4x32x32x384 .f32 := shapeCast S4x32x32x384 (after m c) shapeCasts_S4x1024x384_S4x32x32x384

/-- The returned array at an index. -/
theorem result_apply (n : Fin 4) (y x : Fin 32) (o : Fin 384) :
    result m c (ix4 n y x o)
      = layer (m ((c : Thread nD τ).loc main_arg5) (ix1 0)) (m ((c : Thread nD τ).loc main_arg6) (ix1 0))
          (channels (m ((c : Thread nD τ).loc main_arg0)) (m ((c : Thread nD τ).loc main_arg1)) (m ((c : Thread nD τ).loc main_arg2)) n)
          (fun o c' => m ((c : Thread nD τ).loc main_arg3) (ix2 o c')) (fun o => m ((c : Thread nD τ).loc main_arg4) (ix1 o))
          ⟨32 * y.val + x.val, by omega⟩ o := by
  unfold result
  pointwise
  rw [after_apply]
  exact congrArg (fun t => layer _ _ _ _ _ t o) (Fin.ext (by show y.val * 32 + x.val = 32 * y.val + x.val; omega))

/-- The line after the region leaves the returned array so. -/
theorem tail_v16 : Pipeline.afterTail₀ cfgs (dats m) 0 (V0 m) [hostOps1] c main_v16 = result m c := by
  unfold Pipeline.afterTail₀ result
  have h := Pipeline.withArrays_arr spec0 (by decide) c (V0 m c) (fun w => (dats m 0 c).arrAt w (cfgs 0).N) 7
  rw [← final]
  refine Eq.trans ?_ (congrArg (fun A => shapeCast S4x32x32x384 A shapeCasts_S4x1024x384_S4x32x32x384) h)
  simp only [List.flatten_cons, List.flatten_nil, List.append_nil]
  after_results
  rfl

/-- Every execution of the kernel's program ends with the returned array so. -/
theorem run_result (m : (ℓ : Loc nD τ sig) → Buf (Elt Ideal) ℓ) (ρ : _) :
    θ_run defs (onTc (τ := τ) (main (F := Ideal))) ⟨m, fun _ => 0, ρ⟩
      (fun r => ∀ c : Dev nD, r.2.mem ((c.tc : Thread nD τ).loc main_v16) = result m c) :=
  (θ_run defs _ _).mono (fun _ h c =>
    ((h c).2 main_v16 (Pipeline.mem_restRefs_of main_v16 (by decide) (by decide))).trans (tail_v16 m c)) (run_main m ρ)

end Cert.KernelIdeal.Block

end
-- ==== Proof.RefStages.lean ====
/-
  The reference's result as a chain of named stages: the projection, the pooled centres, the scores, the kept scores,
  the messages, and the last linear map.
-/
module

public import proofs.«01_k».proof.Proof.Gen.ReferenceIdeal

@[expose] public section

noncomputable section

namespace Cert.ReferenceIdeal.Value

open Cert.ReferenceIdeal Cert.ReferenceIdeal.Gen Idealize.ShloMosaic

variable {F : FTy → Type} [FloatOps F]

/-- The projected images, a block of `128` channels for each image and head. -/
def projected (X : FVec F S4x32x32x384 .f32) (W : FVec F S768x384 .f32) (B : FVec F S768 .f32) : FVec F S24x128x32x32 .f32 :=
  shapeCast S24x128x32x32 (transpose S4x768x32x32 [0, 3, 1, 2]
    (addf (Host.dotGeneral dot_S4x32x32x384_S384x768_S4x32x32x768_3_0_012_1_n_n none X (transpose S384x768 [1, 0] W transposes_S768x384_S384x768_1_0))
      (broadcastInDim S4x32x32x768 ![0, 1, 2, 3] bcast_S1x1x1x768_S4x32x32x768_0_1_2_3 (broadcastInDim S1x1x1x768 ![3] bcast_S768_S1x1x1x768_3 B)))
    transposes_S4x32x32x768_S4x768x32x32_0_3_1_2) shapeCasts_S4x768x32x32_S24x128x32x32

/-- The tokens' points. -/
def points (P : FVec F S24x128x32x32 .f32) : FVec F S24x64x1024 .f32 :=
  extractStridedSlice S24x64x1024 ![0, 0, 0] (shapeCast S24x128x1024 P shapeCasts_S24x128x32x32_S24x128x1024) slices_S24x128x1024_S24x64x1024_0_0_0

/-- The tokens' values. -/
def values (P : FVec F S24x128x32x32 .f32) : FVec F S24x64x1024 .f32 :=
  extractStridedSlice S24x64x1024 ![0, 64, 0] (shapeCast S24x128x1024 P shapeCasts_S24x128x32x32_S24x128x1024) slices_S24x128x1024_S24x64x1024_0_64_0

/-- The maxima over the blocks of every channel. -/
def pooled (P : FVec F S24x128x32x32 .f32) : FVec F S24x128x8x8 .f32 :=
  Host.reduce FloatOps.maximumf (shapeCast S24x128x8x4x8x4 P shapeCasts_S24x128x32x32_S24x128x8x4x8x4) (constant S_ .f32 0xFF800000#32)
    reducesTo_S24x128x8x4x8x4_S24x128x8x8_d3_5 h_S_

/-- The centres' points. -/
def centres (P : FVec F S24x128x32x32 .f32) : FVec F S24x64x64 .f32 :=
  extractStridedSlice S24x64x64 ![0, 0, 0] (shapeCast S24x128x64 (pooled P) shapeCasts_S24x128x8x8_S24x128x64) slices_S24x128x64_S24x64x64_0_0_0

/-- The centres' values. -/
def ctrValues (P : FVec F S24x128x32x32 .f32) : FVec F S24x64x64 .f32 :=
  extractStridedSlice S24x64x64 ![0, 64, 0] (shapeCast S24x128x64 (pooled P) shapeCasts_S24x128x8x8_S24x128x64) slices_S24x128x64_S24x64x64_0_64_0

/-- The tokens' points at unit length. -/
def unitPoints (p : FVec F S24x64x1024 .f32) : FVec F S24x64x1024 .f32 :=
  Host.divf p (broadcastInDim S24x64x1024 ![0, 1, 2] bcast_S24x1x1024_S24x64x1024_0_1_2
    (maximumf (Host.sqrt (broadcastInDim S24x1x1024 ![0, 2] bcast_S24x1024_S24x1x1024_0_2
        (Host.reduceAdd (mulf p p) (constant S_ .f32 0x00000000#32) reducesTo_S24x64x1024_S24x1024_d1 h_S_)))
      (broadcastInDim S24x1x1024 ![] bcast_S_S24x1x1024 (constant S_ .f32 0x2B8CBCCC#32))))

/-- The centres' points at unit length. -/
def unitCentres (q : FVec F S24x64x64 .f32) : FVec F S24x64x64 .f32 :=
  Host.divf q (broadcastInDim S24x64x64 ![0, 1, 2] bcast_S24x1x64_S24x64x64_0_1_2
    (maximumf (Host.sqrt (broadcastInDim S24x1x64 ![0, 2] bcast_S24x64_S24x1x64_0_2
        (Host.reduceAdd (mulf q q) (constant S_ .f32 0x00000000#32) reducesTo_S24x64x64_S24x64_d1 h_S_)))
      (broadcastInDim S24x1x64 ![] bcast_S_S24x1x64 (constant S_ .f32 0x2B8CBCCC#32))))

/-- The scores of the tokens at the centres, from the points at unit length. -/
def scores (p : FVec F S24x64x1024 .f32) (q : FVec F S24x64x64 .f32) (al be : FVec F S1 .f32) : FVec F S24x1024x64 .f32 :=
  Host.divf (broadcastInDim S24x1024x64 ![] bcast_S_S24x1024x64 (constant S_ .f32 0x3F800000#32))
    (addf (broadcastInDim S24x1024x64 ![] bcast_S_S24x1024x64 (constant S_ .f32 0x3F800000#32))
      (Host.exp (Host.negf (addf
        (mulf (broadcastInDim S24x1024x64 ![] bcast_S_S24x1024x64 (shapeCast S_ al shapeCasts_S1_S_))
          (Host.dotGeneral dot_S24x64x1024_S24x64x64_S24x1024x64_1_1_2_2_0_0 none p q))
        (broadcastInDim S24x1024x64 ![] bcast_S_S24x1024x64 (shapeCast S_ be shapeCasts_S1_S_))))))

/-- The best scores, each with the word of its centre. -/
def winners (s : FVec F S24x1024x64 .f32) : S24x1024.Idx → F .f32 × BitVec 32 :=
  Host.argReduce reducer_argmax_f32_i32 s (iotaInDim S24x1024x64 32 2) (constant S_ .f32 0xFF800000#32) (constantI S_ 32 0#32)
    reducesTo_S24x1024x64_S24x1024_d2 h_S_

/-- The words of the best centres. -/
def best (s : FVec F S24x1024x64 .f32) : IVec S24x1024 32 := Prod.snd ∘ winners s

/-- The scores kept at the best centres alone. -/
def kept (s : FVec F S24x1024x64 .f32) : FVec F S24x1024x64 .f32 :=
  mulf (uitofp .f32 (cmpi .eq (broadcastInDim S24x1024x64 ![0, 1, 2] bcast_S24x1024x1_S24x1024x64_0_1_2 (broadcastInDim S24x1024x1 ![0, 1] bcast_S24x1024_S24x1024x1_0_1 (best s)))
    (broadcastInDim S24x1024x64 ![0, 1, 2] bcast_S1x1x64_S24x1024x64_0_1_2 (iotaInDim S1x1x64 32 2)))) s

/-- The centres' messages. -/
def messages (k : FVec F S24x1024x64 .f32) (v : FVec F S24x64x1024 .f32) (w : FVec F S24x64x64 .f32) : FVec F S24x64x64 .f32 :=
  Host.divf (addf (Host.dotGeneral dot_S24x64x1024_S24x1024x64_S24x64x64_2_1_1_2_0_0 none v k) w)
    (broadcastInDim S24x64x64 ![0, 1, 2] bcast_S24x1x64_S24x64x64_0_1_2 (broadcastInDim S24x1x64 ![0, 2] bcast_S24x64_S24x1x64_0_2
      (addf (Host.reduceAdd k (constant S_ .f32 0x00000000#32) reducesTo_S24x1024x64_S24x64_d1 h_S_)
        (broadcastInDim S24x64 ![] bcast_S_S24x64 (constant S_ .f32 0x3F800000#32)))))

/-- The last linear map, on what the tokens of every image and head receive. -/
def closing (r : FVec F S24x64x1024 .f32) (OW : FVec F S384x384 .f32) (OB : FVec F S384 .f32) : FVec F S4x32x32x384 .f32 :=
  addf (Host.dotGeneral dot_S4x32x32x384_S384x384_S4x32x32x384_3_0_012_1_n_n none
      (transpose S4x32x32x384 [0, 2, 3, 1] (shapeCast S4x384x32x32 r shapeCasts_S24x64x1024_S4x384x32x32) transposes_S4x384x32x32_S4x32x32x384_0_2_3_1)
      (transpose S384x384 [1, 0] OW transposes_S384x384_S384x384_1_0))
    (broadcastInDim S4x32x32x384 ![0, 1, 2, 3] bcast_S1x1x1x384_S4x32x32x384_0_1_2_3 (broadcastInDim S1x1x1x384 ![3] bcast_S384_S1x1x1x384_3 OB))

/-- The kept scores, from the projected images. -/
def weights (P : FVec F S24x128x32x32 .f32) (al be : FVec F S1 .f32) : FVec F S24x1024x64 .f32 :=
  kept (scores (unitPoints (points P)) (unitCentres (centres P)) al be)

/-- What the tokens receive, from the projected images. -/
def received (P : FVec F S24x128x32x32 .f32) (al be : FVec F S1 .f32) : FVec F S24x64x1024 .f32 :=
  Host.dotGeneral dot_S24x64x64_S24x1024x64_S24x64x1024_2_2_1_1_0_0 none (messages (weights P al be) (values P) (ctrValues P)) (weights P al be)

end Cert.ReferenceIdeal.Value

end
-- ==== Proof.RefArgmax.lean ====
/-
  The reference's stages at an index, in the mathematics of the layer.
-/
module

public import proofs.«01_k».proof.Proof.RefStages
public import proofs.«01_k».proof.Proof.Spec

@[expose] public section

set_option maxRecDepth 16384

noncomputable section

namespace Cert.ReferenceIdeal.Value

open Cert.ReferenceIdeal Cert.ReferenceIdeal.Gen Idealize.ShloMosaic Cert.Cluster

/-! ### The best centre -/

/-- The reducer keeps the pair of the larger value, the smaller index on a tie. -/
theorem reducer_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  unfold reducer_argmax_f32_i32
  have hs : IntOp.cmpi .slt a2 b2 = BitVec.ofBool (decide (a2.toInt < b2.toInt)) := by
    simp only [IntOp.cmpi, BitVec.slt_eq_decide]
  have h1 : FloatOps.cmpf (F := Ideal) (φ := .f32) .ogt a1 b1 = BitVec.ofBool (decide (b1 < a1)) := by
    simp [Ideal.cmpf_def, Ideal.cmp]
  have h2 : FloatOps.cmpf (F := Ideal) (φ := .f32) .une a1 a1 = 0#1 := by
    simp [Ideal.cmpf_def, Ideal.cmp]
  have h3 : FloatOps.cmpf (F := Ideal) (φ := .f32) .oeq a1 b1 = BitVec.ofBool (decide (a1 = b1)) := by
    simp [Ideal.cmpf_def, Ideal.cmp]
  simp only [hs, h1, h2, h3]
  rcases lt_trichotomy a1 b1 with h | h | h
  · have e1 : ¬ b1 < a1 := not_lt.2 h.le
    have e2 : ¬ a1 = b1 := h.ne
    simp [e1, e2, IntOp.ori, IntOp.andi, Scalar.select]
  · subst h
    by_cases h' : a2.toInt < b2.toInt <;> simp [h', IntOp.ori, IntOp.andi, Scalar.select]
  · have e2 : ¬ a1 = b1 := h.ne'
    simp [h, e2, IntOp.ori, IntOp.andi, Scalar.select]

/-- Pair `p` is at least as good as pair `q`. -/
def Beats (p q : EReal × BitVec 32) : Prop := q.1 < p.1 ∨ (q.1 = p.1 ∧ p.2.toInt ≤ q.2.toInt)

/-- What beats a winner beats what that one beats. -/
theorem Beats.trans {p q r : EReal × BitVec 32} (h : Beats p q) (h' : Beats q r) : Beats p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- One step keeps one of its pairs, and one at least as good as either. -/
theorem step_beats (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  rw [reducer_eq]
  split
  next h =>
    refine ⟨.inl rfl, .inr ⟨rfl, le_rfl⟩, ?_⟩
    rcases h with h | ⟨h, hi⟩
    · exact .inl h
    · exact .inr ⟨h.symm, hi.le⟩
  next h =>
    rw [not_or, not_and] at h
    refine ⟨.inr rfl, ?_, .inr ⟨rfl, le_rfl⟩⟩
    rcases lt_or_eq_of_le (not_lt.1 h.1) with h' | h'
    · exact .inl h'
    · exact .inr ⟨h', not_lt.1 (h.2 h')⟩

/-- The whole fold keeps the first pair or one of the list, at least as good as all of them. -/
theorem fold_beats (L : List (EReal × BitVec 32)) : ∀ z : EReal × BitVec 32,
    (L.foldl (reducer_argmax_f32_i32 (F := Ideal)) z = z ∨ L.foldl (reducer_argmax_f32_i32 (F := Ideal)) z ∈ L)
      ∧ Beats (L.foldl (reducer_argmax_f32_i32 (F := Ideal)) z) z
      ∧ ∀ p ∈ L, Beats (L.foldl (reducer_argmax_f32_i32 (F := Ideal)) z) p := by
  induction L with
  | nil => exact fun z => ⟨.inl rfl, .inr ⟨rfl, le_rfl⟩, fun p hp => absurd hp List.not_mem_nil⟩
  | cons a L ih =>
    intro z
    obtain ⟨hm, hz, hL⟩ := ih (reducer_argmax_f32_i32 (F := Ideal) z a)
    obtain ⟨hs, hsz, hsa⟩ := step_beats z a
    rw [List.foldl_cons]
    refine ⟨?_, hz.trans hsz, ?_⟩
    · rcases hm with hm | hm
      · rcases hs with hs | hs
        · exact .inl (hm.trans hs)
        · exact .inr (by rw [hm, hs]; exact List.mem_cons_self)
      · exact .inr (List.mem_cons_of_mem _ hm)
    · intro p hp
      rcases List.mem_cons.1 hp with rfl | hp
      · exact hz.trans hsa
      · exact hL p hp

/-- The fold over a row's pairs of value and position ends at the first largest position. -/
theorem fold_word (s : Fin 64 → EReal) (L : List (EReal × BitVec 32))
    (hL : ∀ p, p ∈ L ↔ ∃ k : Fin 64, (s k, BitVec.ofNat 32 k.val) = p) :
    ∃ a, IsFirst s a ∧ (L.foldl (reducer_argmax_f32_i32 (F := Ideal)) (⊥, 0#32)).2 = BitVec.ofNat 32 a.val := by
  have hint : ∀ x : Fin 64, (BitVec.ofNat 32 x.val).toInt = (x.val : ℤ) := by decide +kernel
  obtain ⟨hm, -, hb⟩ := fold_beats L (⊥, 0#32)
  have hb' : ∀ k : Fin 64, Beats _ (s k, BitVec.ofNat 32 k.val) := fun k => hb _ ((hL _).2 ⟨k, rfl⟩)
  rcases hm with hm | hm
  · rw [hm] at hb' ⊢
    have hbot : ∀ k, s k = ⊥ := fun k => by
      rcases hb' k with h | ⟨h, -⟩
      · exact absurd h not_lt_bot
      · exact h
    exact ⟨0, ⟨fun b => by rw [hbot, hbot], fun b hb0 => absurd hb0 (Nat.not_lt_zero _)⟩, rfl⟩
  · obtain ⟨a, ha⟩ := (hL _).1 hm
    rw [← ha] at hb' ⊢
    refine ⟨a, ⟨fun b => ?_, fun b hba => ?_⟩, rfl⟩
    · rcases hb' b with h | ⟨h, -⟩
      · exact h.le
      · exact h.le
    · rcases hb' b with h | ⟨-, h⟩
      · exact h
      · have h' : (BitVec.ofNat 32 a.val).toInt ≤ (BitVec.ofNat 32 b.val).toInt := h
        rw [hint, hint] at h'
        have : b.val < a.val := hba
        omega

end Cert.ReferenceIdeal.Value

end
-- ==== Proof.RefValue.lean ====
/-
  The reference's stages at an index, in the mathematics of the layer.
-/
module

public import proofs.«01_k».proof.Proof.RefStages
public import proofs.«01_k».proof.Proof.RefArgmax

@[expose] public section

set_option maxRecDepth 16384

noncomputable section

namespace Cert.ReferenceIdeal.Value

open Cert.ReferenceIdeal Cert.ReferenceIdeal.Gen Idealize.ShloMosaic Cert.Cluster

/-- The pairs a position's fold runs over. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ (x i, y i) = p := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The pairs of a row of scores and positions. -/
theorem row_fiber (s : FVec Ideal S24x1024x64 .f32) (b : Fin 24) (t : Fin 1024) (p : EReal × BitVec 32) :
    p ∈ Host.argReduceFiber s (iotaInDim S24x1024x64 32 2) reducesTo_S24x1024x64_S24x1024_d2 (ix2 b t)
      ↔ ∃ k : Fin 64, (s (ix3 b t k), BitVec.ofNat 32 k.val) = p := by
  rw [mem_fiber]
  constructor
  · rintro ⟨i, hi, rfl⟩
    obtain ⟨k, rfl⟩ := (reducesTo_S24x1024x64_S24x1024_d2.fiber_r3_a2 (ix2 b t) _).1 hi
    exact ⟨k, rfl⟩
  · rintro ⟨k, rfl⟩
    exact ⟨ix3 b t k, (reducesTo_S24x1024x64_S24x1024_d2.fiber_r3_a2 (ix2 b t) _).2 ⟨k, rfl⟩, rfl⟩

/-- The value the fold starts from. -/
theorem start_value : constant (F := Ideal) S_ .f32 0xFF800000#32 (Shape.Idx.first h_S_) = (⊥ : EReal) := by
  simp only [constant_apply, Ideal.ofBits_def, ofBits_least]

/-- The best score and its centre's word are the fold's, over the row's pairs of score and position. -/
theorem winners_eq (s : FVec Ideal S24x1024x64 .f32) (j : S24x1024.Idx) :
    winners s j = (Host.argReduceFiber s (iotaInDim S24x1024x64 32 2) reducesTo_S24x1024x64_S24x1024_d2 j).foldl
      (reducer_argmax_f32_i32 (F := Ideal)) ((⊥ : EReal), 0#32) := by
  unfold winners
  rw [Ideal.argReduce_eq_reduce2, Host.reduce2_eq_foldl_fiber, start_value, constantI_apply]

/-- The second parts of pairs known by another name. -/
theorem snd_comp {ι α β : Type} (f : ι → α × β) (j : ι) (p : α × β) (h : f j = p) : (Prod.snd ∘ f) j = p.2 := congrArg Prod.snd h

/-- The best centre's word is that of the first largest score. -/
theorem best_apply (s : FVec Ideal S24x1024x64 .f32) (b : Fin 24) (t : Fin 1024) :
    ∃ a, IsFirst (fun a => s (ix3 b t a)) a ∧ best s (ix2 b t) = BitVec.ofNat 32 a.val := by
  obtain ⟨a, ha, hw⟩ := fold_word _ _ (row_fiber s b t)
  have hb : best s = Prod.snd ∘ winners s := rfl
  rw [hb]
  exact ⟨a, ha, (snd_comp (winners s) (ix2 b t) _ (winners_eq s (ix2 b t))).trans hw⟩

end Cert.ReferenceIdeal.Value

end
-- ==== Proof.RefReads.lean ====
/-
  The reference's stages at an index: projection, blocks' maxima, scores, kept scores, messages.
-/
module

public import proofs.«01_k».proof.Proof.RefValue

@[expose] public section

set_option maxRecDepth 16384

noncomputable section

namespace Cert.ReferenceIdeal.Value

open Cert.ReferenceIdeal Cert.ReferenceIdeal.Gen Idealize.ShloMosaic Cert.Cluster

section
variable (X : FVec Ideal S4x32x32x384 .f32) (W : FVec Ideal S768x384 .f32) (B : FVec Ideal S768 .f32)

/-- A projected channel of an image and head. -/
theorem projected_apply (b : Fin 24) (c : Fin 128) (y x : Fin 32) :
    projected X W B (ix4 b c y x) = channels X W B ⟨b.val / 6, by omega⟩ ⟨32 * y.val + x.val, by omega⟩ ⟨128 * (b.val % 6) + c.val, by omega⟩ := by
  unfold projected channels
  pointwise
  simp only [Nat.mul_comm (b.val % 6) 128]
  refine congrArg (· + _) (Finset.sum_congr rfl fun k _ => congrArg (· * _) (congrArg X ?_))
  exact congrArg₂ (fun u v => ix4 _ u v k) (Fin.ext (by show y.val = (32 * y.val + x.val) / 32; omega))
    (Fin.ext (by show x.val = (32 * y.val + x.val) % 32; omega))

end

variable (P : FVec Ideal S24x128x32x32 .f32)

/-- A channel of a token, from the list of projected images. -/
def chanAt (b : Fin 24) (c : Fin 128) (t : Fin 1024) : EReal := P (ix4 b c ⟨t.val / 32, by omega⟩ ⟨t.val % 32, by omega⟩)

/-- A token's point. -/
theorem points_apply (b : Fin 24) (d : Fin 64) (t : Fin 1024) : points P (ix3 b d t) = chanAt P b ⟨d.val, by omega⟩ t := by
  unfold points chanAt
  pointwise

/-- A token's value. -/
theorem values_apply (b : Fin 24) (d : Fin 64) (t : Fin 1024) : values P (ix3 b d t) = chanAt P b ⟨64 + d.val, by omega⟩ t := by
  unfold values chanAt
  pointwise

/-- The maximum over a block. -/
theorem pooled_apply (b : Fin 24) (c : Fin 128) (y x : Fin 8) : pooled P (ix4 b c y x) = Cluster.pool (chanAt P b c) ⟨8 * y.val + x.val, by omega⟩ := by
  unfold pooled Cluster.pool
  rw [Host.reduce_eq_fold, start_value]
  have hx : ∀ i : S24x128x8x4x8x4.Idx, reducesTo_S24x128x8x4x8x4_S24x128x8x8_d3_5.drop i = ix4 b c y x →
      ∃ u v : Fin 4, i = ix6 b c y u x v := by
    intro i e
    refine ⟨⟨(i 3).val, (i 3).isLt⟩, ⟨(i 5).val, (i 5).isLt⟩, ?_⟩
    funext a; apply Fin.ext
    match a with
    | ⟨0, _⟩ => exact congrArg Fin.val (congrFun e 0)
    | ⟨1, _⟩ => exact congrArg Fin.val (congrFun e 1)
    | ⟨2, _⟩ => exact congrArg Fin.val (congrFun e 2)
    | ⟨3, _⟩ => rfl
    | ⟨4, _⟩ => exact congrArg Fin.val (congrFun e 3)
    | ⟨5, _⟩ => rfl
  have hv : ∀ i j : Fin 4, shapeCast S24x128x8x4x8x4 P shapeCasts_S24x128x32x32_S24x128x8x4x8x4 (ix6 b c y i x j)
      = chanAt P b c (cell ⟨8 * y.val + x.val, by omega⟩ i j) := by
    intro i j
    unfold chanAt cell
    pointwise
    exact congrArg P (congrArg₂ (fun u v => ix4 b c u v)
      (Fin.ext (by show y.val * 4 + i.val = (32 * (4 * ((8 * y.val + x.val) / 8) + i.val) + (4 * ((8 * y.val + x.val) % 8) + j.val)) / 32; omega))
      (Fin.ext (by show x.val * 4 + j.val = (32 * (4 * ((8 * y.val + x.val) / 8) + i.val) + (4 * ((8 * y.val + x.val) % 8) + j.val)) % 32; omega)))
  refine le_antisymm ((Finset.fold_max_le _).2 ⟨bot_le, fun i hi => ?_⟩) (iSup_le fun i => iSup_le fun j => ?_)
  · obtain ⟨u, v, rfl⟩ := hx i (Finset.mem_filter.1 hi).2
    rw [hv]
    exact le_iSup_of_le u (le_iSup_of_le v le_rfl)
  · refine (Finset.le_fold_max _).2 (Or.inr ⟨ix6 b c y i x j, Finset.mem_filter.2 ⟨Finset.mem_univ _, ?_⟩, (hv i j).ge⟩)
    funext a; apply Fin.ext
    match a with
    | ⟨0, _⟩ => rfl
    | ⟨1, _⟩ => rfl
    | ⟨2, _⟩ => rfl
    | ⟨3, _⟩ => rfl

/-- A centre's point. -/
theorem centres_apply (b : Fin 24) (d a : Fin 64) : centres P (ix3 b d a) = Cluster.pool (chanAt P b ⟨d.val, by omega⟩) a := by
  unfold centres
  pointwise
  rw [pooled_apply]
  exact congrArg (Cluster.pool _) (Fin.ext (by show 8 * (a.val / 8) + a.val % 8 = a.val; omega))

/-- A centre's value. -/
theorem ctrValues_apply (b : Fin 24) (d a : Fin 64) : ctrValues P (ix3 b d a) = Cluster.pool (chanAt P b ⟨64 + d.val, by omega⟩) a := by
  unfold ctrValues
  pointwise
  rw [pooled_apply]
  exact congrArg (Cluster.pool _) (Fin.ext (by show 8 * (a.val / 8) + a.val % 8 = a.val; omega))

/-- A token's point at unit length. -/
theorem unitPoints_apply (p : FVec Ideal S24x64x1024 .f32) (b : Fin 24) (d : Fin 64) (t : Fin 1024) :
    unitPoints p (ix3 b d t) = unit (fun d => p (ix3 b d t)) d := by
  unfold unitPoints unit eps
  pointwise

/-- A centre's point at unit length. -/
theorem unitCentres_apply (p : FVec Ideal S24x64x64 .f32) (b : Fin 24) (d : Fin 64) (t : Fin 64) :
    unitCentres p (ix3 b d t) = unit (fun d => p (ix3 b d t)) d := by
  unfold unitCentres unit eps
  pointwise

/-- A token's score at a centre, from the points at unit length. -/
theorem scores_apply (p : FVec Ideal S24x64x1024 .f32) (q : FVec Ideal S24x64x64 .f32) (al be : FVec Ideal S1 .f32) (b : Fin 24) (t : Fin 1024) (a : Fin 64) :
    scores p q al be (ix3 b t a) = Ideal.logistic (al (ix1 0) * (∑ d : Fin 64, p (ix3 b d t) * q (ix3 b d a)) + be (ix1 0)) := by
  unfold scores Ideal.logistic
  pointwise

/-- A kept score. -/
theorem kept_apply (s : FVec Ideal S24x1024x64 .f32) (b : Fin 24) (t : Fin 1024) (a : Fin 64) :
    kept s (ix3 b t a) = keep (fun a => s (ix3 b t a)) a := by
  obtain ⟨a', ha, hw⟩ := best_apply s b t
  rw [keep_eq ha]
  unfold kept
  pointwise
  rw [hw]
  have hc : ∀ a b : Fin 64, IntOp.cmpi .eq (BitVec.ofNat 32 a.val) (BitVec.ofNat 32 b.val) = BitVec.ofBool (decide (b = a)) := by decide +kernel
  rw [hc]
  by_cases h : a = a'
  · have h1 : FloatOps.uitofp (F := Ideal) .f32 1#1 = (1 : EReal) := by simp [FloatOps.uitofp]
    simp [h, h1]
  · have h0 : FloatOps.uitofp (F := Ideal) .f32 0#1 = (0 : EReal) := by simp [FloatOps.uitofp]
    simp [h, h0]

/-- A centre's message. -/
theorem messages_apply (k : FVec Ideal S24x1024x64 .f32) (v : FVec Ideal S24x64x1024 .f32) (w : FVec Ideal S24x64x64 .f32) (b : Fin 24) (d a : Fin 64) :
    messages k v w (ix3 b d a) = Ideal.div ((∑ t : Fin 1024, v (ix3 b d t) * k (ix3 b t a)) + w (ix3 b d a)) ((∑ t : Fin 1024, k (ix3 b t a)) + 1) := by
  unfold messages
  pointwise

/-- The last linear map. -/
theorem closing_apply (r : FVec Ideal S24x64x1024 .f32) (OW : FVec Ideal S384x384 .f32) (OB : FVec Ideal S384 .f32) (n : Fin 4) (y x : Fin 32) (o : Fin 384) :
    closing r OW OB (ix4 n y x o) = (∑ c : Fin 384, r (ix3 ⟨6 * n.val + c.val / 64, by omega⟩ ⟨c.val % 64, by omega⟩ ⟨32 * y.val + x.val, by omega⟩) * OW (ix2 o c)) + OB (ix1 o) := by
  unfold closing
  pointwise
  simp only [Nat.mul_comm n.val 6, Nat.mul_comm y.val 32]

end Cert.ReferenceIdeal.Value

end
-- ==== Proof.RefResult.lean ====
/-
  The reference's result at an index is the layer's.
-/
module

public import proofs.«01_k».proof.Proof.RefReads

@[expose] public section

set_option maxRecDepth 16384

noncomputable section

namespace Cert.ReferenceIdeal.Value

open Cert.ReferenceIdeal Cert.ReferenceIdeal.Gen Idealize.ShloMosaic Cert.Cluster

section

variable (P : FVec Ideal S24x128x32x32 .f32) (al be : FVec Ideal S1 .f32)

/-- A kept score, from the projected images. -/
theorem weights_apply (b : Fin 24) (t : Fin 1024) (a : Fin 64) :
    weights P al be (ix3 b t a) = weight (al (ix1 0)) (be (ix1 0)) (fun t d => chanAt P b ⟨d.val, by omega⟩ t)
      (fun a d => Cluster.pool (chanAt P b ⟨d.val, by omega⟩) a) t a := by
  unfold weights weight
  rw [kept_apply]
  simp only [scores_apply, unitPoints_apply, unitCentres_apply, points_apply, centres_apply, score]

/-- What a token receives of a head, from the projected images. -/
theorem received_apply (b : Fin 24) (d : Fin 64) (t : Fin 1024) :
    received P al be (ix3 b d t) = mix (weight (al (ix1 0)) (be (ix1 0)) (fun t d => chanAt P b ⟨d.val, by omega⟩ t)
        (fun a d => Cluster.pool (chanAt P b ⟨d.val, by omega⟩) a))
      (fun t d => chanAt P b ⟨64 + d.val, by omega⟩ t) (fun a d => Cluster.pool (chanAt P b ⟨64 + d.val, by omega⟩) a) t d := by
  unfold received mix gathered total
  pointwise
  simp only [messages_apply, weights_apply, values_apply, ctrValues_apply]
  refine Finset.sum_congr rfl fun a _ => ?_
  rw [mul_comm]
  refine congrArg (fun s => _ * Ideal.div (s + _) _) (Finset.sum_congr rfl fun t' _ => mul_comm _ _)

end

variable (X : FVec Ideal S4x32x32x384 .f32) (W : FVec Ideal S768x384 .f32) (B : FVec Ideal S768 .f32) (al be : FVec Ideal S1 .f32)
  (OW : FVec Ideal S384x384 .f32) (OB : FVec Ideal S384 .f32)

/-- A token's channel of the projected images. -/
theorem chanAt_projected (n : Fin 4) (h : Fin 6) (c : Fin 128) (t : Fin 1024) :
    chanAt (projected X W B) ⟨6 * n.val + h.val, by omega⟩ c t = channels X W B n t ⟨128 * h.val + c.val, by omega⟩ := by
  unfold chanAt
  rw [projected_apply]
  have h1 : (⟨(6 * n.val + h.val) / 6, by omega⟩ : Fin 4) = n := Fin.ext (by show (6 * n.val + h.val) / 6 = n.val; omega)
  have h2 : (⟨32 * (t.val / 32) + t.val % 32, by omega⟩ : Fin 1024) = t := Fin.ext (by show 32 * (t.val / 32) + t.val % 32 = t.val; omega)
  have h3 : (⟨128 * ((6 * n.val + h.val) % 6) + c.val, by omega⟩ : Fin 768) = ⟨128 * h.val + c.val, by omega⟩ :=
    Fin.ext (by show 128 * ((6 * n.val + h.val) % 6) + c.val = 128 * h.val + c.val; omega)
  exact congr (congr (congrArg (channels X W B) h1) h2) h3

/-- What a token of an image receives of a head. -/
theorem received_head (n : Fin 4) (h : Fin 6) (d : Fin 64) (t : Fin 1024) :
    received (projected X W B) al be (ix3 ⟨6 * n.val + h.val, by omega⟩ d t) = head (al (ix1 0)) (be (ix1 0)) (channels X W B n) h t d := by
  rw [received_apply]
  have hc : ∀ c : Fin 128, chanAt (projected X W B) ⟨6 * n.val + h.val, by omega⟩ c = fun t => channels X W B n t ⟨128 * h.val + c.val, by omega⟩ :=
    fun c => funext fun t => chanAt_projected X W B n h c t
  simp only [hc]
  rfl

/-- The reference's result at an index. -/
theorem result_apply (n : Fin 4) (y x : Fin 32) (o : Fin 384) :
    closing (received (projected X W B) al be) OW OB (ix4 n y x o)
      = layer (al (ix1 0)) (be (ix1 0)) (channels X W B n) (fun o c => OW (ix2 o c)) (fun o => OB (ix1 o)) ⟨32 * y.val + x.val, by omega⟩ o := by
  rw [closing_apply]
  unfold layer
  exact congrArg (· + _) (Finset.sum_congr rfl fun c _ => congrArg (· * _)
    (received_head X W B al be n ⟨c.val / 64, by omega⟩ ⟨c.val % 64, by omega⟩ ⟨32 * y.val + x.val, by omega⟩))

end Cert.ReferenceIdeal.Value

end
-- ==== Proof.RefRun.lean ====
/-
  The reference's run: its operations in order, and what every execution leaves in its result and in its arguments.
-/
module

public import proofs.«01_k».proof.Proof.RefStages
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 81 operations, in order (a called function's operations stand in its call's place, spelt `TRef.…`). -/
abbrev ops : List (HloOp τ sig (Elt F)) :=
  [ unary main_arg1 main_v0 ((transpose S384x768 [1, 0] · transposes_S768x384_S384x768_1_0) : (⟨S768x384, .f32⟩ : BufTy).Contents (Elt F) → (⟨S384x768, .f32⟩ : BufTy).Contents (Elt F)),
    binary main_arg0 main_v0 main_v1 ((fun l r => Host.dotGeneral dot_S4x32x32x384_S384x768_S4x32x32x768_3_0_012_1_n_n none l r) : (⟨S4x32x32x384, .f32⟩ : BufTy).Contents (Elt F) → (⟨S384x768, .f32⟩ : BufTy).Contents (Elt F) → (⟨S4x32x32x768, .f32⟩ : BufTy).Contents (Elt F)),
    unary main_arg2 main_v2 (broadcastInDim S1x1x1x768 ![3] bcast_S768_S1x1x1x768_3 : (⟨S768, .f32⟩ : BufTy).Contents (Elt F) → (⟨S1x1x1x768, .f32⟩ : BufTy).Contents (Elt F)),
    unary main_v2 main_v3 (broadcastInDim S4x32x32x768 ![0, 1, 2, 3] bcast_S1x1x1x768_S4x32x32x768_0_1_2_3 : (⟨S1x1x1x768, .f32⟩ : BufTy).Contents (Elt F) → (⟨S4x32x32x768, .f32⟩ : BufTy).Contents (Elt F)),
    binary main_v1 main_v3 main_v4 (addf : (⟨S4x32x32x768, .f32⟩ : BufTy).Contents (Elt F) → (⟨S4x32x32x768, .f32⟩ : BufTy).Contents (Elt F) → (⟨S4x32x32x768, .f32⟩ : BufTy).Contents (Elt F)),
    unary main_v4 main_v5 ((transpose S4x768x32x32 [0, 3, 1, 2] · transposes_S4x32x32x768_S4x768x32x32_0_3_1_2) : (⟨S4x32x32x768, .f32⟩ : BufTy).Contents (Elt F) → (⟨S4x768x32x32, .f32⟩ : BufTy).Contents (Elt F)),
    reshape main_v5 main_v6 (rfl : (.f32 : EltTy) = .f32) shapeCasts_S4x768x32x32_S24x128x32x32,
    reshape main_v6 main_v7 (rfl : (.f32 : EltTy) = .f32) shapeCasts_S24x128x32x32_S24x128x1024,
    unary main_v7 main_v8 ((extractStridedSlice S24x64x1024 ![0, 0, 0] · slices_S24x128x1024_S24x64x1024_0_0_0) : (⟨S24x128x1024, .f32⟩ : BufTy).Contents (Elt F) → (⟨S24x64x1024, .f32⟩ : BufTy).Contents (Elt F)),
    unary main_v7 main_v9 ((extractStridedSlice S24x64x1024 ![0, 64, 0] · slices_S24x128x1024_S24x64x1024_0_64_0) : (⟨S24x128x1024, .f32⟩ : BufTy).Contents (Elt F) → (⟨S24x64x1024, .f32⟩ : BufTy).Contents (Elt F)),
    reshape main_v6 main_v10 (rfl : (.f32 : EltTy) = .f32) shapeCasts_S24x128x32x32_S24x128x8x4x8x4,
    nullary main_cst (constant S_ .f32 0xFF800000#32),
    binary main_v10 main_cst main_v11 ((fun x v => Host.reduce FloatOps.maximumf x v reducesTo_S24x128x8x4x8x4_S24x128x8x8_d3_5 h_S_) : (⟨S24x128x8x4x8x4, .f32⟩ : BufTy).Contents (Elt F) → (⟨S_, .f32⟩ : BufTy).Contents (Elt F) → (⟨S24x128x8x8, .f32⟩ : BufTy).Contents (Elt F)),
    reshape main_v11 main_v12 (rfl : (.f32 : EltTy) = .f32) shapeCasts_S24x128x8x8_S24x128x64,
    unary main_v12 main_v13 ((extractStridedSlice S24x64x64 ![0, 0, 0] · slices_S24x128x64_S24x64x64_0_0_0) : (⟨S24x128x64, .f32⟩ : BufTy).Contents (Elt F) → (⟨S24x64x64, .f32⟩ : BufTy).Contents (Elt F)),
    unary main_v12 main_v14 ((extractStridedSlice S24x64x64 ![0, 64, 0] · slices_S24x128x64_S24x64x64_0_64_0) : (⟨S24x128x64, .f32⟩ : BufTy).Contents (Elt F) → (⟨S24x64x64, .f32⟩ : BufTy).Contents (Elt F)),
    binary main_v8 main_v8 main_v15 (mulf : (⟨S24x64x1024, .f32⟩ : BufTy).Contents (Elt F) → (⟨S24x64x1024, .f32⟩ : BufTy).Contents (Elt F) → (⟨S24x64x1024, .f32⟩ : BufTy).Contents (Elt F)),
    nullary main_cst_0 (constant S_ .f32 0x00000000#32),
    binary main_v15 main_cst_0 main_v16 ((fun x v => Host.reduceAdd x v reducesTo_S24x64x1024_S24x1024_d1 h_S_) : (⟨S24x64x1024, .f32⟩ : BufTy).Contents (Elt F) → (⟨S_, .f32⟩ : BufTy).Contents (Elt F) → (⟨S24x1024, .f32⟩ : BufTy).Contents (Elt F)),
    unary main_v16 main_v17 (broadcastInDim S24x1x1024 ![0, 2] bcast_S24x1024_S24x1x1024_0_2 : (⟨S24x1024, .f32⟩ : BufTy).Contents (Elt F) → (⟨S24x1x1024, .f32⟩ : BufTy).Contents (Elt F)),
    unary main_v17 main_v18 (Host.sqrt : (⟨S24x1x1024, .f32⟩ : BufTy).Contents (Elt F) → (⟨S24x1x1024, .f32⟩ : BufTy).Contents (Elt F)),
    nullary main_cst_1 (constant S_ .f32 0x2B8CBCCC#32),
    unary main_cst_1 main_v19 (broadcastInDim S24x1x1024 ![] bcast_S_S24x1x1024 : (⟨S_, .f32⟩ : BufTy).Contents (Elt F) → (⟨S24x1x1024, .f32⟩ : BufTy).Contents (Elt F)),
    binary main_v18 main_v19 main_v20 (maximumf : (⟨S24x1x1024, .f32⟩ : BufTy).Contents (Elt F) → (⟨S24x1x1024, .f32⟩ : BufTy).Contents (Elt F) → (⟨S24x1x1024, .f32⟩ : BufTy).Contents (Elt F)),
    unary main_v20 main_v21 (broadcastInDim S24x64x1024 ![0, 1, 2] bcast_S24x1x1024_S24x64x1024_0_1_2 : (⟨S24x1x1024, .f32⟩ : BufTy).Contents (Elt F) → (⟨S24x64x1024, .f32⟩ : BufTy).Contents (Elt F)),
    binary main_v8 main_v21 main_v22 (Host.divf : (⟨S24x64x1024, .f32⟩ : BufTy).Contents (Elt F) → (⟨S24x64x1024, .f32⟩ : BufTy).Contents (Elt F) → (⟨S24x64x1024, .f32⟩ : BufTy).Contents (Elt F)),
    binary main_v13 main_v13 main_v23 (mulf : (⟨S24x64x64, .f32⟩ : BufTy).Contents (Elt F) → (⟨S24x64x64, .f32⟩ : BufTy).Contents (Elt F) → (⟨S24x64x64, .f32⟩ : BufTy).Contents (Elt F)),
    nullary main_cst_2 (constant S_ .f32 0x00000000#32),
    binary main_v23 main_cst_2 main_v24 ((fun x v => Host.reduceAdd x v reducesTo_S24x64x64_S24x64_d1 h_S_) : (⟨S24x64x64, .f32⟩ : BufTy).Contents (Elt F) → (⟨S_, .f32⟩ : BufTy).Contents (Elt F) → (⟨S24x64, .f32⟩ : BufTy).Contents (Elt F)),
    unary main_v24 main_v25 (broadcastInDim S24x1x64 ![0, 2] bcast_S24x64_S24x1x64_0_2 : (⟨S24x64, .f32⟩ : BufTy).Contents (Elt F) → (⟨S24x1x64, .f32⟩ : BufTy).Contents (Elt F)),
    unary main_v25 main_v26 (Host.sqrt : (⟨S24x1x64, .f32⟩ : BufTy).Contents (Elt F) → (⟨S24x1x64, .f32⟩ : BufTy).Contents (Elt F)),
    nullary main_cst_3 (constant S_ .f32 0x2B8CBCCC#32),
    unary main_cst_3 main_v27 (broadcastInDim S24x1x64 ![] bcast_S_S24x1x64 : (⟨S_, .f32⟩ : BufTy).Contents (Elt F) → (⟨S24x1x64, .f32⟩ : BufTy).Contents (Elt F)),
    binary main_v26 main_v27 main_v28 (maximumf : (⟨S24x1x64, .f32⟩ : BufTy).Contents (Elt F) → (⟨S24x1x64, .f32⟩ : BufTy).Contents (Elt F) → (⟨S24x1x64, .f32⟩ : BufTy).Contents (Elt F)),
    unary main_v28 main_v29 (broadcastInDim S24x64x64 ![0, 1, 2] bcast_S24x1x64_S24x64x64_0_1_2 : (⟨S24x1x64, .f32⟩ : BufTy).Contents (Elt F) → (⟨S24x64x64, .f32⟩ : BufTy).Contents (Elt F)),
    binary main_v13 main_v29 main_v30 (Host.divf : (⟨S24x64x64, .f32⟩ : BufTy).Contents (Elt F) → (⟨S24x64x64, .f32⟩ : BufTy).Contents (Elt F) → (⟨S24x64x64, .f32⟩ : BufTy).Contents (Elt F)),
    binary main_v22 main_v30 main_v31 ((fun l r => Host.dotGeneral dot_S24x64x1024_S24x64x64_S24x1024x64_1_1_2_2_0_0 none l r) : (⟨S24x64x1024, .f32⟩ : BufTy).Contents (Elt F) → (⟨S24x64x64, .f32⟩ : BufTy).Contents (Elt F) → (⟨S24x1024x64, .f32⟩ : BufTy).Contents (Elt F)),
    reshape main_arg5 main_v32 (rfl : (.f32 : EltTy) = .f32) shapeCasts_S1_S_,
    unary main_v32 main_v33 (broadcastInDim S24x1024x64 ![] bcast_S_S24x1024x64 : (⟨S_, .f32⟩ : BufTy).Contents (Elt F) → (⟨S24x1024x64, .f32⟩ : BufTy).Contents (Elt F)),
    binary main_v33 main_v31 main_v34 (mulf : (⟨S24x1024x64, .f32⟩ : BufTy).Contents (Elt F) → (⟨S24x1024x64, .f32⟩ : BufTy).Contents (Elt F) → (⟨S24x1024x64, .f32⟩ : BufTy).Contents (Elt F)),
    reshape main_arg6 main_v35 (rfl : (.f32 : EltTy) = .f32) shapeCasts_S1_S_,
    unary main_v35 main_v36 (broadcastInDim S24x1024x64 ![] bcast_S_S24x1024x64 : (⟨S_, .f32⟩ : BufTy).Contents (Elt F) → (⟨S24x1024x64, .f32⟩ : BufTy).Contents (Elt F)),
    binary main_v34 main_v36 main_v37 (addf : (⟨S24x1024x64, .f32⟩ : BufTy).Contents (Elt F) → (⟨S24x1024x64, .f32⟩ : BufTy).Contents (Elt F) → (⟨S24x1024x64, .f32⟩ : BufTy).Contents (Elt F)),
    unary main_v37 main_v38 (Host.negf : (⟨S24x1024x64, .f32⟩ : BufTy).Contents (Elt F) → (⟨S24x1024x64, .f32⟩ : BufTy).Contents (Elt F)),
    unary main_v38 main_v39 (Host.exp : (⟨S24x1024x64, .f32⟩ : BufTy).Contents (Elt F) → (⟨S24x1024x64, .f32⟩ : BufTy).Contents (Elt F)),
    nullary main_cst_4 (constant S_ .f32 0x3F800000#32),
    unary main_cst_4 main_v40 (broadcastInDim S24x1024x64 ![] bcast_S_S24x1024x64 : (⟨S_, .f32⟩ : BufTy).Contents (Elt F) → (⟨S24x1024x64, .f32⟩ : BufTy).Contents (Elt F)),
    binary main_v40 main_v39 main_v41 (addf : (⟨S24x1024x64, .f32⟩ : BufTy).Contents (Elt F) → (⟨S24x1024x64, .f32⟩ : BufTy).Contents (Elt F) → (⟨S24x1024x64, .f32⟩ : BufTy).Contents (Elt F)),
    nullary main_cst_5 (constant S_ .f32 0x3F800000#32),
    unary main_cst_5 main_v42 (broadcastInDim S24x1024x64 ![] bcast_S_S24x1024x64 : (⟨S_, .f32⟩ : BufTy).Contents (Elt F) → (⟨S24x1024x64, .f32⟩ : BufTy).Contents (Elt F)),
    binary main_v42 main_v41 main_v43 (Host.divf : (⟨S24x1024x64, .f32⟩ : BufTy).Contents (Elt F) → (⟨S24x1024x64, .f32⟩ : BufTy).Contents (Elt F) → (⟨S24x1024x64, .f32⟩ : BufTy).Contents (Elt F)),
    TRef.nullary (TRef.of (T := ⟨S24x1024x64, .i32⟩) main_call0_v0) (iotaInDim S24x1024x64 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S24x1024x64, .f32⟩) main_v43) (TRef.of (T := ⟨S24x1024x64, .i32⟩) main_call0_v0) (TRef.of (T := ⟨S_, .f32⟩) main_call0_cst) (TRef.of (T := ⟨S_, .i32⟩) main_call0_c) (TRef.of (T := ⟨S24x1024, .f32⟩) main_call0_v1_0) (fun x y u v j => (Host.argReduce reducer_argmax_f32_i32 x y u v reducesTo_S24x1024x64_S24x1024_d2 h_S_ j).1),
    TRef.quaternary (TRef.of (T := ⟨S24x1024x64, .f32⟩) main_v43) (TRef.of (T := ⟨S24x1024x64, .i32⟩) main_call0_v0) (TRef.of (T := ⟨S_, .f32⟩) main_call0_cst) (TRef.of (T := ⟨S_, .i32⟩) main_call0_c) (TRef.of (T := ⟨S24x1024, .i32⟩) main_v44) (fun x y u v j => (Host.argReduce reducer_argmax_f32_i32 x y u v reducesTo_S24x1024x64_S24x1024_d2 h_S_ j).2),
    TRef.unary (TRef.of (T := ⟨S24x1024, .i32⟩) main_v44) (TRef.of (T := ⟨S24x1024x1, .i32⟩) main_call1_v0) (broadcastInDim S24x1024x1 ![0, 1] bcast_S24x1024_S24x1024x1_0_1),
    TRef.nullary (TRef.of (T := ⟨S1x1x64, .i32⟩) main_call1_v1) (iotaInDim S1x1x64 32 2),
    TRef.unary (TRef.of (T := ⟨S24x1024x1, .i32⟩) main_call1_v0) (TRef.of (T := ⟨S24x1024x64, .i32⟩) main_call1_v2) (broadcastInDim S24x1024x64 ![0, 1, 2] bcast_S24x1024x1_S24x1024x64_0_1_2),
    TRef.unary (TRef.of (T := ⟨S1x1x64, .i32⟩) main_call1_v1) (TRef.of (T := ⟨S24x1024x64, .i32⟩) main_call1_v3) (broadcastInDim S24x1024x64 ![0, 1, 2] bcast_S1x1x64_S24x1024x64_0_1_2),
    TRef.binary (TRef.of (T := ⟨S24x1024x64, .i32⟩) main_call1_v2) (TRef.of (T := ⟨S24x1024x64, .i32⟩) main_call1_v3) (TRef.of (T := ⟨S24x1024x64, .i1⟩) main_call1_v4) (cmpi .eq),
    TRef.unary (TRef.of (T := ⟨S24x1024x64, .i1⟩) main_call1_v4) (TRef.of (T := ⟨S24x1024x64, .f32⟩) main_v45) (uitofp .f32),
    binary main_v45 main_v43 main_v46 (mulf : (⟨S24x1024x64, .f32⟩ : BufTy).Contents (Elt F) → (⟨S24x1024x64, .f32⟩ : BufTy).Contents (Elt F) → (⟨S24x1024x64, .f32⟩ : BufTy).Contents (Elt F)),
    binary main_v9 main_v46 main_v47 ((fun l r => Host.dotGeneral dot_S24x64x1024_S24x1024x64_S24x64x64_2_1_1_2_0_0 none l r) : (⟨S24x64x1024, .f32⟩ : BufTy).Contents (Elt F) → (⟨S24x1024x64, .f32⟩ : BufTy).Contents (Elt F) → (⟨S24x64x64, .f32⟩ : BufTy).Contents (Elt F)),
    binary main_v47 main_v14 main_v48 (addf : (⟨S24x64x64, .f32⟩ : BufTy).Contents (Elt F) → (⟨S24x64x64, .f32⟩ : BufTy).Contents (Elt F) → (⟨S24x64x64, .f32⟩ : BufTy).Contents (Elt F)),
    nullary main_cst_6 (constant S_ .f32 0x00000000#32),
    binary main_v46 main_cst_6 main_v49 ((fun x v => Host.reduceAdd x v reducesTo_S24x1024x64_S24x64_d1 h_S_) : (⟨S24x1024x64, .f32⟩ : BufTy).Contents (Elt F) → (⟨S_, .f32⟩ : BufTy).Contents (Elt F) → (⟨S24x64, .f32⟩ : BufTy).Contents (Elt F)),
    nullary main_cst_7 (constant S_ .f32 0x3F800000#32),
    unary main_cst_7 main_v50 (broadcastInDim S24x64 ![] bcast_S_S24x64 : (⟨S_, .f32⟩ : BufTy).Contents (Elt F) → (⟨S24x64, .f32⟩ : BufTy).Contents (Elt F)),
    binary main_v49 main_v50 main_v51 (addf : (⟨S24x64, .f32⟩ : BufTy).Contents (Elt F) → (⟨S24x64, .f32⟩ : BufTy).Contents (Elt F) → (⟨S24x64, .f32⟩ : BufTy).Contents (Elt F)),
    unary main_v51 main_v52 (broadcastInDim S24x1x64 ![0, 2] bcast_S24x64_S24x1x64_0_2 : (⟨S24x64, .f32⟩ : BufTy).Contents (Elt F) → (⟨S24x1x64, .f32⟩ : BufTy).Contents (Elt F)),
    unary main_v52 main_v53 (broadcastInDim S24x64x64 ![0, 1, 2] bcast_S24x1x64_S24x64x64_0_1_2 : (⟨S24x1x64, .f32⟩ : BufTy).Contents (Elt F) → (⟨S24x64x64, .f32⟩ : BufTy).Contents (Elt F)),
    binary main_v48 main_v53 main_v54 (Host.divf : (⟨S24x64x64, .f32⟩ : BufTy).Contents (Elt F) → (⟨S24x64x64, .f32⟩ : BufTy).Contents (Elt F) → (⟨S24x64x64, .f32⟩ : BufTy).Contents (Elt F)),
    binary main_v54 main_v46 main_v55 ((fun l r => Host.dotGeneral dot_S24x64x64_S24x1024x64_S24x64x1024_2_2_1_1_0_0 none l r) : (⟨S24x64x64, .f32⟩ : BufTy).Contents (Elt F) → (⟨S24x1024x64, .f32⟩ : BufTy).Contents (Elt F) → (⟨S24x64x1024, .f32⟩ : BufTy).Contents (Elt F)),
    reshape main_v55 main_v56 (rfl : (.f32 : EltTy) = .f32) shapeCasts_S24x64x1024_S4x384x32x32,
    unary main_v56 main_v57 ((transpose S4x32x32x384 [0, 2, 3, 1] · transposes_S4x384x32x32_S4x32x32x384_0_2_3_1) : (⟨S4x384x32x32, .f32⟩ : BufTy).Contents (Elt F) → (⟨S4x32x32x384, .f32⟩ : BufTy).Contents (Elt F)),
    unary main_arg3 main_v58 ((transpose S384x384 [1, 0] · transposes_S384x384_S384x384_1_0) : (⟨S384x384, .f32⟩ : BufTy).Contents (Elt F) → (⟨S384x384, .f32⟩ : BufTy).Contents (Elt F)),
    binary main_v57 main_v58 main_v59 ((fun l r => Host.dotGeneral dot_S4x32x32x384_S384x384_S4x32x32x384_3_0_012_1_n_n none l r) : (⟨S4x32x32x384, .f32⟩ : BufTy).Contents (Elt F) → (⟨S384x384, .f32⟩ : BufTy).Contents (Elt F) → (⟨S4x32x32x384, .f32⟩ : BufTy).Contents (Elt F)),
    unary main_arg4 main_v60 (broadcastInDim S1x1x1x384 ![3] bcast_S384_S1x1x1x384_3 : (⟨S384, .f32⟩ : BufTy).Contents (Elt F) → (⟨S1x1x1x384, .f32⟩ : BufTy).Contents (Elt F)),
    unary main_v60 main_v61 (broadcastInDim S4x32x32x384 ![0, 1, 2, 3] bcast_S1x1x1x384_S4x32x32x384_0_1_2_3 : (⟨S1x1x1x384, .f32⟩ : BufTy).Contents (Elt F) → (⟨S4x32x32x384, .f32⟩ : BufTy).Contents (Elt F)),
    binary main_v59 main_v61 main_v62 (addf : (⟨S4x32x32x384, .f32⟩ : BufTy).Contents (Elt F) → (⟨S4x32x32x384, .f32⟩ : BufTy).Contents (Elt F) → (⟨S4x32x32x384, .f32⟩ : BufTy).Contents (Elt F)) ]

set_option maxRecDepth 8192 in
set_option maxHeartbeats 4000000 in
/-- The program is its operations one after another. -/
theorem main_eq (c : Dev nD) : main (F := F) c = seq ops := rfl
/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide
set_option maxRecDepth 8192 in
/-- The operations touch declared buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., reshape_bufs_sub .., unary_bufs_sub .., unary_bufs_sub .., reshape_bufs_sub .., nullary_bufs_sub .., binary_bufs_sub .., reshape_bufs_sub .., unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., reshape_bufs_sub .., unary_bufs_sub .., binary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., reshape_bufs_sub .., unary_bufs_sub .., unary_bufs_sub .., binary_bufs_sub .., unary_bufs_sub .., unary_bufs_sub .., binary_bufs_sub ..⟩

/-- The result, of the arguments' launch contents. -/
def res_main_v62 (m : (ℓ : Loc nD τ sig) → Buf (Elt F) ℓ) (c : Dev nD) : Buf (Elt F) ((c.tc : Thread nD τ).loc main_v62) :=
  closing (received (projected (m ((c.tc : Thread nD τ).loc main_arg0)) (m ((c.tc : Thread nD τ).loc main_arg1)) (m ((c.tc : Thread nD τ).loc main_arg2)))
    (m ((c.tc : Thread nD τ).loc main_arg5)) (m ((c.tc : Thread nD τ).loc main_arg6))) (m ((c.tc : Thread nD τ).loc main_arg3)) (m ((c.tc : Thread nD τ).loc main_arg4))

set_option maxRecDepth 8192 in
set_option maxHeartbeats 32400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = res_main_v62 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v62).trans (by simp only [ops, TRef.binary, TRef.nullary, TRef.quaternary, TRef.unary, TRef.toBuf, TRef.ofBuf, cast_eq]; after_results_simp <;> rfl <;> (unfold res_main_v62; rfl)),
      (h c main_arg0).trans (by simp only [ops, TRef.binary, TRef.nullary, TRef.quaternary, TRef.unary, TRef.toBuf, TRef.ofBuf, cast_eq]; after_results_simp <;> rfl),
      (h c main_arg1).trans (by simp only [ops, TRef.binary, TRef.nullary, TRef.quaternary, TRef.unary, TRef.toBuf, TRef.ofBuf, cast_eq]; after_results_simp <;> rfl),
      (h c main_arg2).trans (by simp only [ops, TRef.binary, TRef.nullary, TRef.quaternary, TRef.unary, TRef.toBuf, TRef.ofBuf, cast_eq]; after_results_simp <;> rfl),
      (h c main_arg3).trans (by simp only [ops, TRef.binary, TRef.nullary, TRef.quaternary, TRef.unary, TRef.toBuf, TRef.ofBuf, cast_eq]; after_results_simp <;> rfl),
      (h c main_arg4).trans (by simp only [ops, TRef.binary, TRef.nullary, TRef.quaternary, TRef.unary, TRef.toBuf, TRef.ofBuf, cast_eq]; after_results_simp <;> rfl),
      (h c main_arg5).trans (by simp only [ops, TRef.binary, TRef.nullary, TRef.quaternary, TRef.unary, TRef.toBuf, TRef.ofBuf, cast_eq]; after_results_simp <;> rfl),
      (h c main_arg6).trans (by simp only [ops, TRef.binary, TRef.nullary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.lean ====
/-
  The claims, proved: the three programs run, leave their arguments and every counter as they were, and the kernel's program
  and the reference end with the same result.
-/
module

public import proofs.«01_k».proof.Defs
public import proofs.«01_k».proof.Proof.Gen.Kernel.Frame
public import proofs.«01_k».proof.Proof.KernelValue
public import proofs.«01_k».proof.Proof.RefResult
public import proofs.«01_k».proof.Proof.RefRun
public import Idealize.ShloMosaic.Lib.Claim
public import Idealize.ShloMosaic.Lib.Quiescent

@[expose] public section

noncomputable section

namespace Cert.Proof

open Idealize.ShloMosaic Idealize.SL.Sem

/-- The reference runs, its arguments end unchanged and every counter reads zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- At the same arguments, the reference's result is the kernel's. -/
theorem results_eq (m : (ℓ : Loc Cert.KernelIdeal.nD Cert.KernelIdeal.τ Cert.KernelIdeal.sig) → Buf (Elt Ideal) ℓ)
    (c : Dev Cert.KernelIdeal.nD) :
    Cert.ReferenceIdeal.Value.closing
        (Cert.ReferenceIdeal.Value.received
          (Cert.ReferenceIdeal.Value.projected (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Block.result m c := by
  refine funext fun i => ?_
  have hi : i = ix4 (i 0) (i 1) (i 2) (i 3) := by
    refine funext fun k => ?_
    fin_cases k <;> rfl
  rw [hi]
  exact (Cert.ReferenceIdeal.Value.result_apply _ _ _ _ _ _ _ (i 0) (i 1) (i 2) (i 3)).trans
    (Cert.KernelIdeal.Block.result_apply m c (i 0) (i 1) (i 2) (i 3)).symm

/-- The kernel's program and the reference end with equal results. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Block.result m c, ?_, ?_⟩
  · exact (θ_run _ _ _).mono (fun r h c => ⟨h.1 c, h.2 c⟩)
      (θ_run_and (Cert.KernelIdeal.Block.run_result m g) (Cert.KernelIdeal.Gen.unchanged m g))
  · refine (θ_run _ _ _).mono (fun r h c => ⟨(h c).1.trans ?_, (h c).2⟩) (Cert.ReferenceIdeal.Value.run m' g')
    obtain ⟨h0, h1, h2, h3, h4, h5, h6⟩ := hagree c
    unfold Cert.ReferenceIdeal.Value.res_main_v62
    rw [h0, h1, h2, h3, h4, h5, h6]
    exact results_eq m c

/-- Every claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, same_result⟩

end Cert.Proof

end
